-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S32x2048x1024 : Shape := ⟨3, ![32, 2048, 1024]⟩
abbrev S56x1024 : Shape := ⟨2, ![56, 1024]⟩
abbrev S56 : Shape := ⟨1, ![56]⟩
abbrev S32x256 : Shape := ⟨2, ![32, 256]⟩
abbrev S32 : Shape := ⟨1, ![32]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S56x1024 : S_.BroadcastsInDim S56x1024 (![] : Fin 0 → Fin S56x1024.rank)
  reducesTo_S56x1024_S_d0_1 : S56x1024.ReducesTo [0, 1] S_
  bcast_S_S56 : S_.BroadcastsInDim S56 (![] : Fin 0 → Fin S56.rank)
  reducesTo_S56_S_d0 : S56.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg3 : IVec S32x256 32) (main_arg4 : IVec S32 32) (main_arg5 : IVec S32 32) (main_v13 : IVec S_ 1) (main_v15 : IVec S32x256 1) (main_c_5 : IVec S_ 32) : IVec S_ 1 :=
  let main_v16 : IVec S32x256 32 := broadcastInDim S32x256 ![] bcast_S_S32x256 main_c_5
  let main_v17 : IVec S32x256 1 := cmpi .slt main_arg3 main_v16
  let main_v18 : IVec S32x256 1 := andi main_v15 main_v17
  let main_c_6 : IVec S_ 1 := constantI S_ 1 1#1
  let main_v19 : IVec S_ 1 := (fun x v => Host.reduce IntOp.andi x v reducesTo_S32x256_S_d0_1 h_S_) main_v18 main_c_6
  let main_v20 : IVec S_ 1 := andi main_v13 main_v19
  let main_c_7 : IVec S_ 32 := constantI S_ 32 2048#32
  let main_v21 : IVec S32 32 := broadcastInDim S32 ![] bcast_S_S32 main_c_7
  let main_v22 : IVec S32 1 := cmpi .sge main_arg4 main_v21
  let main_c_8 : IVec S_ 1 := constantI S_ 1 1#1
  let main_v23 : IVec S_ 1 := (fun x v => Host.reduce IntOp.andi x v reducesTo_S32_S_d0 h_S_) main_v22 main_c_8
  let main_v24 : IVec S_ 1 := andi main_v20 main_v23
  let main_c_9 : IVec S_ 32 := constantI S_ 32 256#32
  let main_v25 : IVec S32 32 := broadcastInDim S32 ![] bcast_S_S32 main_c_9
  let main_v26 : IVec S32 1 := cmpi .eq main_arg5 main_v25
  let main_c_10 : IVec S_ 1 := constantI S_ 1 1#1
  let main_v27 : IVec S_ 1 := (fun x v => Host.reduce IntOp.andi x v reducesTo_S32_S_d0 h_S_) main_v26 main_c_10
  let main_v28 : IVec S_ 1 := andi main_v24 main_v27
  main_v28

def fn {F : FTy → Type} [FloatOps F] (main_arg0 : FVec F S32x2048x1024 .f32) (main_arg1 : FVec F S56x1024 .f32) (main_arg2 : FVec F S56 .f32) (main_arg3 : IVec S32x256 32) (main_arg4 : IVec S32 32) (main_arg5 : IVec S32 32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S56x1024 .f32 := Host.absf main_arg1
  let main_cst_0 : FVec F S_ .f32 := constant S_ .f32 0x7F800000#32
  let main_v5 : FVec F S56x1024 .f32 := broadcastInDim S56x1024 ![] bcast_S_S56x1024 main_cst_0
  let main_v6 : IVec S56x1024 1 := cmpf .olt main_v4 main_v5
  let main_c_1 : IVec S_ 1 := constantI S_ 1 1#1
  let main_v7 : IVec S_ 1 := (fun x v => Host.reduce IntOp.andi x v reducesTo_S56x1024_S_d0_1 h_S_) main_v6 main_c_1
  let main_v8 : IVec S_ 1 := andi main_v3 main_v7
  let main_v9 : FVec F S56 .f32 := Host.absf main_arg2
  let main_cst_2 : FVec F S_ .f32 := constant S_ .f32 0x7F800000#32
  let main_v10 : FVec F S56 .f32 := broadcastInDim S56 ![] bcast_S_S56 main_cst_2
  let main_v11 : IVec S56 1 := cmpf .olt main_v9 main_v10
  let main_c_3 : IVec S_ 1 := constantI S_ 1 1#1
  let main_v12 : IVec S_ 1 := (fun x v => Host.reduce IntOp.andi x v reducesTo_S56_S_d0 h_S_) main_v11 main_c_3
  let main_v13 : IVec S_ 1 := andi main_v8 main_v12
  let main_c_4 : IVec S_ 32 := constantI S_ 32 0#32
  let main_v14 : IVec S32x256 32 := broadcastInDim S32x256 ![] bcast_S_S32x256 main_c_4
  let main_v15 : IVec S32x256 1 := cmpi .sge main_arg3 main_v14
  let main_c_5 : IVec S_ 32 := constantI S_ 32 56#32
  fn_part1 (F := F) main_arg3 main_arg4 main_arg5 main_v13 main_v15 main_c_5
-- ==== Kernel.lean ====
abbrev S32x2048x1024 : Shape := ⟨3, ![32, 2048, 1024]⟩
abbrev S56x1024 : Shape := ⟨2, ![56, 1024]⟩
abbrev S56 : Shape := ⟨1, ![56]⟩
abbrev S32x256 : Shape := ⟨2, ![32, 256]⟩
abbrev S32 : Shape := ⟨1, ![32]⟩
abbrev S_ : Shape := ⟨0, ![]⟩
abbrev S1024x128 : Shape := ⟨2, ![1024, 128]⟩
abbrev S1024x56 : Shape := ⟨2, ![1024, 56]⟩
abbrev S1 : Shape := ⟨1, ![1]⟩
abbrev S1x128 : Shape := ⟨2, ![1, 128]⟩
abbrev S2 : Shape := ⟨1, ![2]⟩
abbrev S32x1 : Shape := ⟨2, ![32, 1]⟩
abbrev S32x255 : Shape := ⟨2, ![32, 255]⟩
abbrev S32x128 : Shape := ⟨2, ![32, 128]⟩
abbrev S32x256x1024 : Shape := ⟨3, ![32, 256, 1024]⟩
abbrev S256x32x256 : Shape := ⟨3, ![256, 32, 256]⟩
abbrev S1x256 : Shape := ⟨2, ![1, 256]⟩
abbrev S128x256 : Shape := ⟨2, ![128, 256]⟩
abbrev S8192x1024 : Shape := ⟨2, ![8192, 1024]⟩
abbrev S8192x128 : Shape := ⟨2, ![8192, 128]⟩
abbrev S8192 : Shape := ⟨1, ![8192]⟩
abbrev S8192x1 : Shape := ⟨2, ![8192, 1]⟩
abbrev S256x128 : Shape := ⟨2, ![256, 128]⟩
abbrev S256x256 : Shape := ⟨2, ![256, 256]⟩
abbrev S256x1x256 : Shape := ⟨3, ![256, 1, 256]⟩
abbrev S1x32x256 : Shape := ⟨3, ![1, 32, 256]⟩

abbrev nBuf : Space → Nat
  | .hbm => 35
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S56x1024, .f32⟩
  | .hbm, ⟨2, _⟩ => ⟨S56, .f32⟩
  | .hbm, ⟨3, _⟩ => ⟨S32x256, .i32⟩
  | .hbm, ⟨4, _⟩ => ⟨S32, .i32⟩
  | .hbm, ⟨5, _⟩ => ⟨S32, .i32⟩
  | .hbm, ⟨6, _⟩ => ⟨S_, .f32⟩
  | .hbm, ⟨7, _⟩ => ⟨S1024x128, .f32⟩
  | .hbm, ⟨8, _⟩ => ⟨S1024x56, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S_, .f32⟩
  | .hbm, ⟨13, _⟩ => ⟨S1x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S1x128, .f32⟩
  | .hbm, ⟨20, _⟩ => ⟨S_, .i32⟩
  | .hbm, ⟨21, _⟩ => ⟨S32x1, .i32⟩
  | .hbm, ⟨22, _⟩ => ⟨S32x255, .i32⟩
  | .hbm, ⟨23, _⟩ => ⟨S32x256, .i32⟩
  | .hbm, ⟨24, _⟩ => ⟨S32x2048x1024, .bf16⟩
  | .hbm, ⟨25, _⟩ => ⟨S1024x128, .bf16⟩
  | .hbm, ⟨26, _⟩ => ⟨S32x128, .f32⟩
  | .hbm, ⟨27, _⟩ => ⟨S32x1, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S32x256x1024, .bf16⟩
  | .local _ .vmem, ⟨1, _⟩ => ⟨S32x256x1024, .bf16⟩
  | .local _ .vmem, ⟨2, _⟩ => ⟨S1024x128, .bf16⟩
  | .local _ .vmem, ⟨3, _⟩ => ⟨S1x128, .f32⟩
  | .local _ .vmem, ⟨4, _⟩ => ⟨S32x256, .i32⟩
  | .local _ .vmem, ⟨5, _⟩ => ⟨S32x256, .i32⟩
  | .local _ .vmem, ⟨6, _⟩ => ⟨S32x128, .f32⟩
  | .local _ .vmem, ⟨7, _⟩ => ⟨S256x32x256, .f32⟩
  | .local _ .vmem, ⟨8, _⟩ => ⟨S32x256, .f32⟩
  | .local _ .vmem, ⟨9, _⟩ => ⟨S32x256, .f32⟩
  | .local _ .vmem, ⟨10, _⟩ => ⟨S32x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_152 : BitVec 32 := 0#32
  let c64_i32 : BitVec 32 := 64#32
  let v426 : BitVec 32 := Scalar.addi c0_i32_152 c64_i32
  let c1_i32 : BitVec 32 := 1#32
  ⟨c0_i32_152, v426, c1_i32⟩
def k0_off1 (k0_t1 : Fin k0_t1_loop.trips) (c0_i32_161 : BitVec 32) : Fin 3 → Nat :=
  let c0_i32_152 : BitVec 32 := 0#32
  let c1_i32 : BitVec 32 := 1#32
  let arg11 : BitVec 32 := Scf.iv c0_i32_152 c1_i32 k0_t1
  let c4_i32 : BitVec 32 := 4#32
  let v440 : BitVec 32 := Scalar.muli arg11 c4_i32
  let v441 : BitVec 32 := Scalar.addi v440 c0_i32_161
  let v442 : Index := Scalar.indexCast v441
  let c0_162 : Index := 0#32
  let c0_163 : Index := 0#32
  ![v442.toNat, 0, 0]
def k0_cond2 (i : grid0.Coords) : BitVec 1 :=
  let arg0 : BitVec 32 := BitVec.ofNat 32 (i 0).val
  let c7_i32 : BitVec 32 := 7#32
  let v437 : BitVec 1 := Scalar.cmpi .eq arg0 c7_i32
  let v438 : BitVec 32 := Scalar.extui v437
  let c0_i32_160 : BitVec 32 := 0#32
  let v439 : BitVec 1 := Scalar.cmpi .ne v438 c0_i32_160
  v439

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x2048x1024 : Shape := ⟨3, ![32, 2048, 1024]⟩
abbrev S56x1024 : Shape := ⟨2, ![56, 1024]⟩
abbrev S56 : Shape := ⟨1, ![56]⟩
abbrev S32x256 : Shape := ⟨2, ![32, 256]⟩
abbrev S32 : Shape := ⟨1, ![32]⟩
abbrev S32x2048x56 : Shape := ⟨3, ![32, 2048, 56]⟩
abbrev S1x1x56 : Shape := ⟨3, ![1, 1, 56]⟩
abbrev S_ : Shape := ⟨0, ![]⟩
abbrev S32x2048 : Shape := ⟨2, ![32, 2048]⟩
abbrev S32x2048x1 : Shape := ⟨3, ![32, 2048, 1]⟩
abbrev S2048x32x56 : Shape := ⟨3, ![2048, 32, 56]⟩
abbrev S32x256x1 : Shape := ⟨3, ![32, 256, 1]⟩
abbrev S32x256x2 : Shape := ⟨3, ![32, 256, 2]⟩
abbrev S32x512 : Shape := ⟨2, ![32, 512]⟩
abbrev S32x513 : Shape := ⟨2, ![32, 513]⟩
abbrev S513 : Shape := ⟨1, ![513]⟩
abbrev S1x513 : Shape := ⟨2, ![1, 513]⟩
abbrev S32x511 : Shape := ⟨2, ![32, 511]⟩
abbrev S1x32x56 : Shape := ⟨3, ![1, 32, 56]⟩
abbrev S32x56 : Shape := ⟨2, ![32, 56]⟩
abbrev S32x1 : Shape := ⟨2, ![32, 1]⟩
abbrev S32x513x1 : Shape := ⟨3, ![32, 513, 1]⟩
abbrev S32x513x2 : Shape := ⟨3, ![32, 513, 2]⟩
abbrev S2047x32x56 : Shape := ⟨3, ![2047, 32, 56]⟩
abbrev S2047 : Shape := ⟨1, ![2047]⟩
abbrev S1 : Shape := ⟨1, ![1]⟩
abbrev S32x2 : Shape := ⟨2, ![32, 2]⟩

abbrev nBuf : Space → Nat
  | .hbm => 256
  | .vmem => 0
  | .smem => 0
  | _ => 0

abbrev hbmTy0_0 (i : Nat) : BufTy := match i % 128 with
  | 0 => ⟨S32x2048x1024, .f32⟩
  | 1 => ⟨S56x1024, .f32⟩
  | 2 => ⟨S56, .f32⟩
  | 3 => ⟨S32x256, .i32⟩
  | 4 => ⟨S32, .i32⟩
  | 5 => ⟨S32, .i32⟩
  | 6 => ⟨S32x2048x56, .f32⟩
  | 7 => ⟨S1x1x56, .f32⟩
  | 8 => ⟨S32x2048x56, .f32⟩
  | 9 => ⟨S32x2048x56, .f32⟩
  | 10 => ⟨S_, .f32⟩
  | 11 => ⟨S32x2048, .f32⟩
  | 12 => ⟨S32x2048x1, .f32⟩
  | 13 => ⟨S32x2048x56, .f32⟩
  | 14 => ⟨S32x2048x56, .f32⟩
  | 15 => ⟨S32x2048x56, .f32⟩
  | 16 => ⟨S_, .f32⟩
  | 17 => ⟨S32x2048, .f32⟩
  | 18 => ⟨S32x2048x1, .f32⟩
  | 19 => ⟨S32x2048x1, .f32⟩
  | 20 => ⟨S32x2048x56, .f32⟩
  | 21 => ⟨S32x2048x56, .f32⟩
  | 22 => ⟨S2048x32x56, .f32⟩
  | 23 => ⟨S_, .i32⟩
  | 24 => ⟨S32x256, .i32⟩
  | 25 => ⟨S32x256x1, .i32⟩
  | 26 => ⟨S32x256x1, .i32⟩
  | 27 => ⟨S32x256x2, .i32⟩
  | 28 => ⟨S32x512, .i32⟩
  | 29 => ⟨S_, .i32⟩
  | 30 => ⟨S_, .i32⟩
  | 31 => ⟨S32x513, .i32⟩
  | 32 => ⟨S513, .i32⟩
  | 33 => ⟨S_, .i32⟩
  | 34 => ⟨S513, .i32⟩
  | 35 => ⟨S513, .i32⟩
  | 36 => ⟨S_, .i32⟩
  | 37 => ⟨S513, .i32⟩
  | 38 => ⟨S513, .i1⟩
  | 39 => ⟨S1x513, .i1⟩
  | 40 => ⟨S32x511, .i32⟩
  | 41 => ⟨S_, .i32⟩
  | 42 => ⟨S_, .i32⟩
  | 43 => ⟨S32x513, .i32⟩
  | 44 => ⟨S1x513, .i1⟩
  | 45 => ⟨S32x513, .i1⟩
  | 46 => ⟨S32x513, .i1⟩
  | 47 => ⟨S32x513, .i1⟩
  | 48 => ⟨S513, .i32⟩
  | 49 => ⟨S1x513, .i32⟩
  | 50 => ⟨S_, .i32⟩
  | 51 => ⟨S1x513, .i32⟩
  | 52 => ⟨S1x513, .i1⟩
  | 53 => ⟨S1x32x56, .f32⟩
  | 54 => ⟨S32x56, .f32⟩
  | 55 => ⟨S_, .f32⟩
  | 56 => ⟨S32, .f32⟩
  | 57 => ⟨S32x1, .f32⟩
  | 58 => ⟨S32x56, .f32⟩
  | 59 => ⟨S32x56, .f32⟩
  | 60 => ⟨S32x56, .f32⟩
  | 61 => ⟨S_, .f32⟩
  | 62 => ⟨S32, .f32⟩
  | 63 => ⟨S32x1, .f32⟩
  | 64 => ⟨S32x1, .f32⟩
  | 65 => ⟨S32x1, .f32⟩
  | 66 => ⟨S_, .f32⟩
  | 67 => ⟨S32x1, .f32⟩
  | 68 => ⟨S32x1, .f32⟩
  | 69 => ⟨S32, .i32⟩
  | 70 => ⟨S32x1, .i32⟩
  | 71 => ⟨S_, .i32⟩
  | 72 => ⟨S32x1, .i32⟩
  | 73 => ⟨S32x1, .i1⟩
  | 74 => ⟨S_, .i32⟩
  | 75 => ⟨S32x1, .i32⟩
  | 76 => ⟨S32x1, .i32⟩
  | 77 => ⟨S32x1, .i32⟩
  | 78 => ⟨S_, .i32⟩
  | 79 => ⟨S32x513, .i32⟩
  | 80 => ⟨S32x513, .i1⟩
  | 81 => ⟨S_, .i32⟩
  | 82 => ⟨S32x513, .i32⟩
  | 83 => ⟨S32x513, .i32⟩
  | 84 => ⟨S32x513, .i32⟩
  | 85 => ⟨S32x513, .i32⟩
  | 86 => ⟨S32x513x1, .i32⟩
  | 87 => ⟨S32x513x1, .i32⟩
  | 88 => ⟨S32x513x2, .i32⟩
  | 89 => ⟨S32x513, .f32⟩
  | 90 => ⟨S32x513, .i1⟩
  | 91 => ⟨S32x513, .f32⟩
  | 92 => ⟨S32x513, .f32⟩
  | 93 => ⟨S32x513, .i1⟩
  | 94 => ⟨S_, .f32⟩
  | 95 => ⟨S32x513, .f32⟩
  | 96 => ⟨S32x513, .f32⟩
  | 97 => ⟨S2047x32x56, .f32⟩
  | 98 => ⟨S2047, .i32⟩
  | 99 => ⟨S_, .i32⟩
  | 100 => ⟨S2047, .i32⟩
  | 101 => ⟨S2047, .i32⟩
  | 102 => ⟨S_, .i32⟩
  | 103 => ⟨S2047x32x56, .f32⟩
  | 104 => ⟨S2047, .i32⟩
  | 105 => ⟨S32x513, .i1⟩
  | 106 => ⟨S32x513, .i32⟩
  | 107 => ⟨S1x513, .i1⟩
  | 108 => ⟨S32, .i32⟩
  | 109 => ⟨S_, .i32⟩
  | 110 => ⟨S32x513, .f32⟩
  | 111 => ⟨S_, .i32⟩
  | 112 => ⟨S_, .i1⟩
  | 113 => ⟨S_, .i32⟩
  | 114 => ⟨S_, .i32⟩
  | 115 => ⟨S1x32x56, .f32⟩
  | 116 => ⟨S32x56, .f32⟩
  | 117 => ⟨S1, .i32⟩
  | 118 => ⟨S_, .i32⟩
  | 119 => ⟨S32x512, .f32⟩
  | 120 => ⟨S_, .f32⟩
  | 121 => ⟨S_, .f32⟩
  | 122 => ⟨S32x513, .f32⟩
  | 123 => ⟨S32x511, .f32⟩
  | 124 => ⟨S_, .f32⟩
  | 125 => ⟨S_, .f32⟩
  | 126 => ⟨S32x513, .f32⟩
  | 127 => ⟨S_, .f32⟩
  | _ => ⟨S32x2048x1024, .f32⟩

abbrev hbmTy0_1 (i : Nat) : BufTy := match i % 128 with
  | 0 => ⟨S32x513, .f32⟩
  | 1 => ⟨S32x513, .f32⟩
  | 2 => ⟨S32x513, .f32⟩
  | 3 => ⟨S32x513, .f32⟩
  | 4 => ⟨S32x513, .i1⟩
  | 5 => ⟨S32x513, .f32⟩
  | 6 => ⟨S32x513, .f32⟩
  | 7 => ⟨S32x513, .f32⟩
  | 8 => ⟨S32x513, .f32⟩
  | 9 => ⟨S32x513, .f32⟩
  | 10 => ⟨S32x513, .f32⟩
  | 11 => ⟨S32x513, .f32⟩
  | 12 => ⟨S32x513, .f32⟩
  | 13 => ⟨S32x513, .f32⟩
  | 14 => ⟨S32x513, .i1⟩
  | 15 => ⟨S32x513, .f32⟩
  | 16 => ⟨S32x513, .f32⟩
  | 17 => ⟨S32x513, .f32⟩
  | 18 => ⟨S32x513, .f32⟩
  | 19 => ⟨S32x513, .f32⟩
  | 20 => ⟨S32x513, .f32⟩
  | 21 => ⟨S32x513, .f32⟩
  | 22 => ⟨S_, .f32⟩
  | 23 => ⟨S32, .f32⟩
  | 24 => ⟨S32x1, .f32⟩
  | 25 => ⟨S32x56, .f32⟩
  | 26 => ⟨S32x56, .f32⟩
  | 27 => ⟨S32x56, .f32⟩
  | 28 => ⟨S_, .f32⟩
  | 29 => ⟨S32, .f32⟩
  | 30 => ⟨S32x1, .f32⟩
  | 31 => ⟨S32x1, .f32⟩
  | 32 => ⟨S32x1, .f32⟩
  | 33 => ⟨S_, .f32⟩
  | 34 => ⟨S32x1, .f32⟩
  | 35 => ⟨S32x1, .f32⟩
  | 36 => ⟨S32, .i32⟩
  | 37 => ⟨S32x1, .i32⟩
  | 38 => ⟨S_, .i32⟩
  | 39 => ⟨S32x1, .i32⟩
  | 40 => ⟨S32x1, .i1⟩
  | 41 => ⟨S_, .i32⟩
  | 42 => ⟨S32x1, .i32⟩
  | 43 => ⟨S32x1, .i32⟩
  | 44 => ⟨S32x1, .i32⟩
  | 45 => ⟨S_, .i32⟩
  | 46 => ⟨S32x513, .i32⟩
  | 47 => ⟨S32x513, .i1⟩
  | 48 => ⟨S_, .i32⟩
  | 49 => ⟨S32x513, .i32⟩
  | 50 => ⟨S32x513, .i32⟩
  | 51 => ⟨S32x513, .i32⟩
  | 52 => ⟨S32x513, .i32⟩
  | 53 => ⟨S32x513x1, .i32⟩
  | 54 => ⟨S32x513x1, .i32⟩
  | 55 => ⟨S32x513x2, .i32⟩
  | 56 => ⟨S32x513, .f32⟩
  | 57 => ⟨S32x513, .i1⟩
  | 58 => ⟨S32x513, .f32⟩
  | 59 => ⟨S32x513, .f32⟩
  | 60 => ⟨S32x513, .f32⟩
  | 61 => ⟨S32x1, .i32⟩
  | 62 => ⟨S32x1, .i32⟩
  | 63 => ⟨S32x1, .i1⟩
  | 64 => ⟨S32x513, .i1⟩
  | 65 => ⟨S32x513, .f32⟩
  | 66 => ⟨S_, .i32⟩
  | 67 => ⟨S_, .i32⟩
  | 68 => ⟨S_, .i32⟩
  | 69 => ⟨S32, .i32⟩
  | 70 => ⟨S32, .i32⟩
  | 71 => ⟨S32, .i32⟩
  | 72 => ⟨S_, .i32⟩
  | 73 => ⟨S32, .i32⟩
  | 74 => ⟨S32, .i1⟩
  | 75 => ⟨S_, .i32⟩
  | 76 => ⟨S32, .i32⟩
  | 77 => ⟨S32, .i32⟩
  | 78 => ⟨S32, .i32⟩
  | 79 => ⟨S_, .i32⟩
  | 80 => ⟨S32, .i32⟩
  | 81 => ⟨S32, .i1⟩
  | 82 => ⟨S_, .i32⟩
  | 83 => ⟨S32, .i32⟩
  | 84 => ⟨S32, .i32⟩
  | 85 => ⟨S32, .i32⟩
  | 86 => ⟨S32x1, .i32⟩
  | 87 => ⟨S32x1, .i32⟩
  | 88 => ⟨S32x2, .i32⟩
  | 89 => ⟨S32, .f32⟩
  | 90 => ⟨S_, .i32⟩
  | 91 => ⟨S32, .i32⟩
  | 92 => ⟨S32, .i32⟩
  | 93 => ⟨S_, .i32⟩
  | 94 => ⟨S32, .i32⟩
  | 95 => ⟨S32, .i1⟩
  | 96 => ⟨S_, .i32⟩
  | 97 => ⟨S32, .i32⟩
  | 98 => ⟨S32, .i32⟩
  | 99 => ⟨S32, .i32⟩
  | 100 => ⟨S_, .i32⟩
  | 101 => ⟨S32, .i32⟩
  | 102 => ⟨S32, .i1⟩
  | 103 => ⟨S_, .i32⟩
  | 104 => ⟨S32, .i32⟩
  | 105 => ⟨S32, .i32⟩
  | 106 => ⟨S32, .i32⟩
  | 107 => ⟨S32x1, .i32⟩
  | 108 => ⟨S32x1, .i32⟩
  | 109 => ⟨S32x2, .i32⟩
  | 110 => ⟨S32, .f32⟩
  | 111 => ⟨S32, .f32⟩
  | 112 => ⟨S32, .f32⟩
  | 113 => ⟨S32, .i1⟩
  | 114 => ⟨S32, .f32⟩
  | 115 => ⟨S32, .f32⟩
  | 116 => ⟨S32, .f32⟩
  | 117 => ⟨S32, .f32⟩
  | 118 => ⟨S32, .f32⟩
  | 119 => ⟨S32, .f32⟩
  | 120 => ⟨S32, .f32⟩
  | 121 => ⟨S32, .f32⟩
  | 122 => ⟨S32, .f32⟩
  | 123 => ⟨S32, .f32⟩
  | 124 => ⟨S_, .f32⟩
  | 125 => ⟨S_, .f32⟩
  | 126 => ⟨S_, .f32⟩
  | 127 => ⟨S_, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_call1_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77_0 : Ref sig .tc := ⟨.hbm, 103, rfl⟩
abbrev main_v77_1 : Ref sig .tc := ⟨.hbm, 104, rfl⟩
abbrev main_v77_2 : Ref sig .tc := ⟨.hbm, 105, rfl⟩
abbrev main_v77_3 : Ref sig .tc := ⟨.hbm, 106, rfl⟩
abbrev main_v77_4 : Ref sig .tc := ⟨.hbm, 107, rfl⟩
abbrev main_v77_5 : Ref sig .tc := ⟨.hbm, 108, rfl⟩
abbrev main_v77_6 : Ref sig .tc := ⟨.hbm, 109, rfl⟩
abbrev main_v77_7 : Ref sig .tc := ⟨.hbm, 110, rfl⟩
abbrev main_while0c_c_35 : Ref sig .tc := ⟨.hbm, 111, rfl⟩
abbrev main_while0c_v126 : Ref sig .tc := ⟨.hbm, 112, rfl⟩
abbrev main_while0b_call2_c : Ref sig .tc := ⟨.hbm, 113, rfl⟩
abbrev main_while0b_call2_c_0 : Ref sig .tc := ⟨.hbm, 114, rfl⟩
abbrev main_while0b_call2_v0 : Ref sig .tc := ⟨.hbm, 115, rfl⟩
abbrev main_while0b_v126 : Ref sig .tc := ⟨.hbm, 116, rfl⟩
abbrev main_while0b_call3_v0 : Ref sig .tc := ⟨.hbm, 117, rfl⟩
abbrev main_while0b_v127 : Ref sig .tc := ⟨.hbm, 118, rfl⟩
abbrev main_while0b_v128 : Ref sig .tc := ⟨.hbm, 119, rfl⟩
abbrev main_while0b_cst_35 : Ref sig .tc := ⟨.hbm, 120, rfl⟩
abbrev main_while0b_call4_v0 : Ref sig .tc := ⟨.hbm, 121, rfl⟩
abbrev main_while0b_v129 : Ref sig .tc := ⟨.hbm, 122, rfl⟩
abbrev main_while0b_v130 : Ref sig .tc := ⟨.hbm, 123, rfl⟩
abbrev main_while0b_cst_36 : Ref sig .tc := ⟨.hbm, 124, rfl⟩
abbrev main_while0b_call5_v0 : Ref sig .tc := ⟨.hbm, 125, rfl⟩
abbrev main_while0b_v131 : Ref sig .tc := ⟨.hbm, 126, rfl⟩
abbrev main_while0b_cst_37 : Ref sig .tc := ⟨.hbm, 127, rfl⟩
abbrev main_while0b_v132 : Ref sig .tc := ⟨.hbm, 128, rfl⟩
abbrev main_while0b_v133 : Ref sig .tc := ⟨.hbm, 129, rfl⟩
abbrev main_while0b_v134 : Ref sig .tc := ⟨.hbm, 130, rfl⟩
abbrev main_while0b_v135 : Ref sig .tc := ⟨.hbm, 131, rfl⟩
abbrev main_while0b_v136 : Ref sig .tc := ⟨.hbm, 132, rfl⟩
abbrev main_while0b_v137 : Ref sig .tc := ⟨.hbm, 133, rfl⟩
abbrev main_while0b_v138 : Ref sig .tc := ⟨.hbm, 134, rfl⟩
abbrev main_while0b_v139 : Ref sig .tc := ⟨.hbm, 135, rfl⟩
abbrev main_while0b_v140 : Ref sig .tc := ⟨.hbm, 136, rfl⟩
abbrev main_while0b_v141 : Ref sig .tc := ⟨.hbm, 137, rfl⟩
abbrev main_while0b_v142 : Ref sig .tc := ⟨.hbm, 138, rfl⟩
abbrev main_while0b_v143 : Ref sig .tc := ⟨.hbm, 139, rfl⟩
abbrev main_while0b_v144 : Ref sig .tc := ⟨.hbm, 140, rfl⟩
abbrev main_while0b_v145 : Ref sig .tc := ⟨.hbm, 141, rfl⟩
abbrev main_while0b_v146 : Ref sig .tc := ⟨.hbm, 142, rfl⟩
abbrev main_while0b_v147 : Ref sig .tc := ⟨.hbm, 143, rfl⟩
abbrev main_while0b_v148 : Ref sig .tc := ⟨.hbm, 144, rfl⟩
abbrev main_while0b_v149 : Ref sig .tc := ⟨.hbm, 145, rfl⟩
abbrev main_while0b_v150 : Ref sig .tc := ⟨.hbm, 146, rfl⟩
abbrev main_while0b_v151 : Ref sig .tc := ⟨.hbm, 147, rfl⟩
abbrev main_while0b_v152 : Ref sig .tc := ⟨.hbm, 148, rfl⟩
abbrev main_while0b_v153 : Ref sig .tc := ⟨.hbm, 149, rfl⟩
abbrev main_while0b_cst_38 : Ref sig .tc := ⟨.hbm, 150, rfl⟩
abbrev main_while0b_v154 : Ref sig .tc := ⟨.hbm, 151, rfl⟩
abbrev main_while0b_v155 : Ref sig .tc := ⟨.hbm, 152, rfl⟩
abbrev main_while0b_v156 : Ref sig .tc := ⟨.hbm, 153, rfl⟩
abbrev main_while0b_v157 : Ref sig .tc := ⟨.hbm, 154, rfl⟩
abbrev main_while0b_v158 : Ref sig .tc := ⟨.hbm, 155, rfl⟩
abbrev main_while0b_cst_39 : Ref sig .tc := ⟨.hbm, 156, rfl⟩
abbrev main_while0b_v159 : Ref sig .tc := ⟨.hbm, 157, rfl⟩
abbrev main_while0b_v160 : Ref sig .tc := ⟨.hbm, 158, rfl⟩
abbrev main_while0b_v161 : Ref sig .tc := ⟨.hbm, 159, rfl⟩
abbrev main_while0b_v162 : Ref sig .tc := ⟨.hbm, 160, rfl⟩
abbrev main_while0b_cst_40 : Ref sig .tc := ⟨.hbm, 161, rfl⟩
abbrev main_while0b_v163 : Ref sig .tc := ⟨.hbm, 162, rfl⟩
abbrev main_while0b_v164 : Ref sig .tc := ⟨.hbm, 163, rfl⟩
abbrev main_while0b_v165 : Ref sig .tc := ⟨.hbm, 164, rfl⟩
abbrev main_while0b_v166 : Ref sig .tc := ⟨.hbm, 165, rfl⟩
abbrev main_while0b_c_41 : Ref sig .tc := ⟨.hbm, 166, rfl⟩
abbrev main_while0b_v167 : Ref sig .tc := ⟨.hbm, 167, rfl⟩
abbrev main_while0b_v168 : Ref sig .tc := ⟨.hbm, 168, rfl⟩
abbrev main_while0b_c_42 : Ref sig .tc := ⟨.hbm, 169, rfl⟩
abbrev main_while0b_v169 : Ref sig .tc := ⟨.hbm, 170, rfl⟩
abbrev main_while0b_v170 : Ref sig .tc := ⟨.hbm, 171, rfl⟩
abbrev main_while0b_v171 : Ref sig .tc := ⟨.hbm, 172, rfl⟩
abbrev main_while0b_c_43 : Ref sig .tc := ⟨.hbm, 173, rfl⟩
abbrev main_while0b_v172 : Ref sig .tc := ⟨.hbm, 174, rfl⟩
abbrev main_while0b_v173 : Ref sig .tc := ⟨.hbm, 175, rfl⟩
abbrev main_while0b_c_44 : Ref sig .tc := ⟨.hbm, 176, rfl⟩
abbrev main_while0b_v174 : Ref sig .tc := ⟨.hbm, 177, rfl⟩
abbrev main_while0b_v175 : Ref sig .tc := ⟨.hbm, 178, rfl⟩
abbrev main_while0b_v176 : Ref sig .tc := ⟨.hbm, 179, rfl⟩
abbrev main_while0b_v177 : Ref sig .tc := ⟨.hbm, 180, rfl⟩
abbrev main_while0b_v178 : Ref sig .tc := ⟨.hbm, 181, rfl⟩
abbrev main_while0b_v179 : Ref sig .tc := ⟨.hbm, 182, rfl⟩
abbrev main_while0b_v180 : Ref sig .tc := ⟨.hbm, 183, rfl⟩
abbrev main_while0b_v181 : Ref sig .tc := ⟨.hbm, 184, rfl⟩
abbrev main_while0b_v182 : Ref sig .tc := ⟨.hbm, 185, rfl⟩
abbrev main_while0b_v183 : Ref sig .tc := ⟨.hbm, 186, rfl⟩
abbrev main_while0b_v184 : Ref sig .tc := ⟨.hbm, 187, rfl⟩
abbrev main_while0b_v185 : Ref sig .tc := ⟨.hbm, 188, rfl⟩
abbrev main_while0b_v186 : Ref sig .tc := ⟨.hbm, 189, rfl⟩
abbrev main_while0b_v187 : Ref sig .tc := ⟨.hbm, 190, rfl⟩
abbrev main_while0b_v188 : Ref sig .tc := ⟨.hbm, 191, rfl⟩
abbrev main_while0b_v189 : Ref sig .tc := ⟨.hbm, 192, rfl⟩
abbrev main_while0b_v190 : Ref sig .tc := ⟨.hbm, 193, rfl⟩
abbrev main_while0b_c_45 : Ref sig .tc := ⟨.hbm, 194, rfl⟩
abbrev main_while0b_v191 : Ref sig .tc := ⟨.hbm, 195, rfl⟩
abbrev main_c_16 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_c_17 : Ref sig .tc := ⟨.hbm, 200, rfl⟩
abbrev main_v81 : Ref sig .tc := ⟨.hbm, 201, rfl⟩
abbrev main_v82 : Ref sig .tc := ⟨.hbm, 202, rfl⟩
abbrev main_c_18 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_c_19 : Ref sig .tc := ⟨.hbm, 207, rfl⟩
abbrev main_v86 : Ref sig .tc := ⟨.hbm, 208, rfl⟩
abbrev main_v87 : Ref sig .tc := ⟨.hbm, 209, rfl⟩
abbrev main_c_20 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_c_21 : Ref sig .tc := ⟨.hbm, 218, rfl⟩
abbrev main_v95 : Ref sig .tc := ⟨.hbm, 219, rfl⟩
abbrev main_v96 : Ref sig .tc := ⟨.hbm, 220, rfl⟩
abbrev main_c_22 : Ref sig .tc := ⟨.hbm, 221, rfl⟩
abbrev main_v97 : Ref sig .tc := ⟨.hbm, 222, rfl⟩
abbrev main_v98 : Ref sig .tc := ⟨.hbm, 223, rfl⟩
abbrev main_c_23 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_c_24 : Ref sig .tc := ⟨.hbm, 228, rfl⟩
abbrev main_v102 : Ref sig .tc := ⟨.hbm, 229, rfl⟩
abbrev main_v103 : Ref sig .tc := ⟨.hbm, 230, rfl⟩
abbrev main_c_25 : Ref sig .tc := ⟨.hbm, 231, rfl⟩
abbrev main_v104 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_cst_26 : Ref sig .tc := ⟨.hbm, 252, rfl⟩
abbrev main_v124 : Ref sig .tc := ⟨.hbm, 253, rfl⟩
abbrev main_cst_27 : Ref sig .tc := ⟨.hbm, 254, rfl⟩
abbrev main_v125 : Ref sig .tc := ⟨.hbm, 255, rfl⟩

abbrev nD : Nat := 1
abbrev τ : Topo := Topo.v7x

variable {F : FTy → Type} [FloatOps F]

abbrev main_while0_count : Scf.Loop 32 := ⟨0#32, 2047#32, 1#32⟩
-- ==== Proof.Lse.lean ====
/- Sums of exponentials on the extended reals below `⊤`: `lse x y = log (exp x + exp y)`, the forms the two
   programs compute it in, and the normalisation of a row of logits. -/
module

public import Idealize.ShloMosaic.PureOps.Ideal
public import Mathlib.Data.EReal.Operations
public import Mathlib.Analysis.SpecialFunctions.Log.Basic

@[expose] public section

noncomputable section

namespace Cert.Ctc

open Idealize.ShloMosaic

/-- The logarithm of the sum of two exponentials, `-∞` counting as the logarithm of zero. -/
def lse (x y : EReal) : EReal := Ideal.log (Ideal.exp x + Ideal.exp y)

theorem exp_ne_zero' (r : ℝ) : ¬ Real.exp r ≤ 0 := not_le.mpr (Real.exp_pos r)

/-- Values below `⊤` are `⊥` or real. -/
theorem cases_lt {x : EReal} (h : x ≠ ⊤) : x = ⊥ ∨ ∃ r : ℝ, x = r := by
  induction x with
  | bot => exact Or.inl rfl
  | top => exact absurd rfl h
  | coe r => exact Or.inr ⟨r, rfl⟩

theorem lse_coe (a b : ℝ) : lse a b = (Real.log (Real.exp a + Real.exp b) : ℝ) := by
  unfold lse
  rw [Ideal.exp_coe, Ideal.exp_coe, ← EReal.coe_add, Ideal.log_coe, if_neg (not_le.mpr (by positivity))]

theorem lse_bot (x : EReal) (h : x ≠ ⊤) : lse x ⊥ = x := by
  rcases cases_lt h with rfl | ⟨r, rfl⟩
  · unfold lse
    rw [Ideal.exp_bot, add_zero, ← EReal.coe_zero, Ideal.log_coe, if_pos le_rfl]
  · unfold lse
    rw [Ideal.exp_bot, add_zero, Ideal.exp_coe, Ideal.log_coe, if_neg (exp_ne_zero' r), Real.log_exp]

theorem lse_comm (x y : EReal) : lse x y = lse y x := by unfold lse; rw [add_comm]

theorem bot_lse (x : EReal) (h : x ≠ ⊤) : lse ⊥ x = x := by rw [lse_comm, lse_bot x h]

theorem lse_ne_top {x y : EReal} (hx : x ≠ ⊤) (hy : y ≠ ⊤) : lse x y ≠ ⊤ := by
  rcases cases_lt hx with rfl | ⟨a, rfl⟩
  · rw [bot_lse _ hy]; exact hy
  · rcases cases_lt hy with rfl | ⟨b, rfl⟩
    · rw [lse_bot _ hx]; exact hx
    · rw [lse_coe]; exact EReal.coe_ne_top _

theorem add_coe_ne_top {x : EReal} (h : x ≠ ⊤) (c : ℝ) : x + (c : EReal) ≠ ⊤ := by
  rcases cases_lt h with rfl | ⟨a, rfl⟩
  · rw [EReal.bot_add]; exact bot_ne_top
  · rw [← EReal.coe_add]; exact EReal.coe_ne_top _

theorem log_sum_shift (a b m : ℝ) :
    m + Real.log (Real.exp (a - m) + Real.exp (b - m)) = Real.log (Real.exp a + Real.exp b) := by
  have h : Real.exp a + Real.exp b = Real.exp m * (Real.exp (a - m) + Real.exp (b - m)) := by
    rw [mul_add, ← Real.exp_add, ← Real.exp_add, add_sub_cancel, add_sub_cancel]
  rw [h, Real.log_mul (Real.exp_ne_zero _) (by positivity), Real.log_exp]

/-- `lse` commutes with adding a real number. -/
theorem lse_add {x y : EReal} (hx : x ≠ ⊤) (hy : y ≠ ⊤) (c : ℝ) : lse (x + c) (y + c) = lse x y + c := by
  rcases cases_lt hx with rfl | ⟨a, rfl⟩
  · rw [EReal.bot_add, bot_lse _ (add_coe_ne_top hy c), bot_lse _ hy]
  · rcases cases_lt hy with rfl | ⟨b, rfl⟩
    · rw [EReal.bot_add, lse_bot _ (add_coe_ne_top hx c), lse_bot _ hx]
    · rw [← EReal.coe_add, ← EReal.coe_add, lse_coe, lse_coe, ← EReal.coe_add]
      congr 1
      have := log_sum_shift (a + c) (b + c) c
      rw [add_sub_cancel_right, add_sub_cancel_right] at this
      rw [← this, add_comm]

/-- The exponential undoes the logarithm inside `lse`. -/
theorem exp_lse {x y : EReal} (hx : x ≠ ⊤) (hy : y ≠ ⊤) : Ideal.exp (lse x y) = Ideal.exp x + Ideal.exp y := by
  rcases cases_lt hx with rfl | ⟨a, rfl⟩
  · rw [bot_lse _ hy, Ideal.exp_bot, zero_add]
  · rcases cases_lt hy with rfl | ⟨b, rfl⟩
    · rw [lse_bot _ hx, Ideal.exp_bot, add_zero]
    · rw [lse_coe, Ideal.exp_coe, Ideal.exp_coe, Ideal.exp_coe, ← EReal.coe_add, Real.exp_log (by positivity)]

/-- Subtracting the larger of two values first leaves `lse` unchanged. -/
theorem lse_shift {x y : EReal} (hx : x ≠ ⊤) (hy : y ≠ ⊤) :
    max x y + Ideal.log (Ideal.exp (x - max x y) + Ideal.exp (y - max x y)) = lse x y := by
  rcases cases_lt hx with rfl | ⟨a, rfl⟩
  · rw [max_eq_right bot_le, bot_lse _ hy]
    rcases cases_lt hy with rfl | ⟨b, rfl⟩
    · rw [EReal.bot_add]
    · rw [← EReal.coe_sub, sub_self, EReal.bot_sub, Ideal.exp_bot, Ideal.exp_coe, Real.exp_zero, zero_add, Ideal.log_coe,
        if_neg (by norm_num), Real.log_one, EReal.coe_zero, add_zero]
  · rcases cases_lt hy with rfl | ⟨b, rfl⟩
    · rw [max_eq_left bot_le, lse_bot _ hx, ← EReal.coe_sub, sub_self, EReal.bot_sub, Ideal.exp_bot, Ideal.exp_coe,
        Real.exp_zero, add_zero, Ideal.log_coe, if_neg (by norm_num), Real.log_one, EReal.coe_zero, add_zero]
    · have hm : max (a : EReal) (b : EReal) = ((max a b : ℝ) : EReal) := by
        rcases le_total a b with h | h
        · rw [max_eq_right h, max_eq_right (EReal.coe_le_coe_iff.mpr h)]
        · rw [max_eq_left h, max_eq_left (EReal.coe_le_coe_iff.mpr h)]
      rw [hm, ← EReal.coe_sub, ← EReal.coe_sub]
      change _ + lse _ _ = _
      rw [lse_coe, ← EReal.coe_add, lse_coe, log_sum_shift]

/-- The larger value plus `log (1 + exp (-|x - y|))` is `lse`. -/
theorem lse_log1p {x y : EReal} (hx : x ≠ ⊤) (hy : y ≠ ⊤) :
    max x y + Ideal.log1p (Ideal.exp (-(max (x - y) (-(x - y))))) = lse x y := by
  have h0 : Ideal.log1p (Ideal.exp (-⊤)) = 0 := by
    unfold Ideal.log1p
    rw [EReal.neg_top, Ideal.exp_bot, add_zero, ← EReal.coe_one, Ideal.log_coe, if_neg (by norm_num), Real.log_one, EReal.coe_zero]
  have hb : max (⊥ : EReal) (-⊥) = ⊤ := by rw [EReal.neg_bot]; exact max_eq_right bot_le
  rcases cases_lt hx with rfl | ⟨a, rfl⟩
  · rw [EReal.bot_sub, hb, h0, add_zero, max_eq_right bot_le, bot_lse _ hy]
  · rcases cases_lt hy with rfl | ⟨b, rfl⟩
    · rw [EReal.coe_sub_bot, EReal.neg_top, max_eq_left (bot_le : (⊥ : EReal) ≤ ⊤), h0, add_zero, max_eq_left bot_le, lse_bot _ hx]
    · have key : ∀ a b : ℝ, a ≤ b →
          max (a : EReal) (b : EReal) + Ideal.log1p (Ideal.exp (-(max ((a : EReal) - b) (-((a : EReal) - b))))) = lse a b := by
        intro a b h
        rw [max_eq_right (EReal.coe_le_coe_iff.mpr h), ← EReal.coe_sub, ← EReal.coe_neg,
          max_eq_right (EReal.coe_le_coe_iff.mpr (by linarith)), ← EReal.coe_neg, neg_neg, Ideal.exp_coe]
        unfold Ideal.log1p
        rw [← EReal.coe_one, ← EReal.coe_add, Ideal.log_coe, if_neg (not_le.mpr (by positivity)), ← EReal.coe_add, lse_coe,
          ← log_sum_shift a b b, sub_self, Real.exp_zero, add_comm (1 : ℝ)]
      rcases le_total a b with h | h
      · exact key a b h
      · have := key b a h
        rw [lse_comm, ← this, max_comm (b : EReal), ← EReal.coe_sub, ← EReal.coe_sub, ← EReal.coe_neg, ← EReal.coe_neg, neg_sub, neg_sub, max_comm ((b - a : ℝ) : EReal)]

/-- The three-term form with the largest value subtracted first. -/
theorem lse3_shift {x y z : EReal} (hx : x ≠ ⊤) (hy : y ≠ ⊤) (hz : z ≠ ⊤) :
    max (max x y) z + Ideal.log (Ideal.exp (x - max (max x y) z) + Ideal.exp (y - max (max x y) z) + Ideal.exp (z - max (max x y) z))
      = lse (lse x y) z := by
  have hxy : max x y ≠ ⊤ := by rcases max_choice x y with h | h <;> rw [h] <;> assumption
  have hm : max (max x y) z ≠ ⊤ := by rcases max_choice (max x y) z with h | h <;> rw [h] <;> assumption
  rcases cases_lt hm with hb | ⟨m, hm'⟩
  · have hz0 : z = ⊥ := le_bot_iff.mp (hb ▸ le_max_right _ _)
    have hx0 : x = ⊥ := le_bot_iff.mp (hb ▸ (le_max_left x y).trans (le_max_left _ _))
    have hy0 : y = ⊥ := le_bot_iff.mp (hb ▸ (le_max_right x y).trans (le_max_left _ _))
    rw [hb, EReal.bot_add, hx0, hy0, hz0, bot_lse _ bot_ne_top, bot_lse _ bot_ne_top]
  · rw [hm']
    have hn : ∀ {w : EReal}, w ≠ ⊤ → w - (m : EReal) ≠ ⊤ := fun {w} h => by
      rw [sub_eq_add_neg, ← EReal.coe_neg]; exact add_coe_ne_top h _
    rw [← exp_lse (hn hx) (hn hy)]
    change (m : EReal) + lse (lse _ _) _ = _
    simp only [sub_eq_add_neg, ← EReal.coe_neg]
    rw [lse_add hx hy, lse_add (lse_ne_top hx hy) hz, add_comm, add_assoc, ← EReal.coe_add, neg_add_cancel, EReal.coe_zero, add_zero]

/-- The logarithm of the sum of the exponentials of a row. -/
def rowLse {n : ℕ} (z : Fin n → ℝ) : ℝ := Real.log (∑ v, Real.exp (z v))

theorem sum_exp_pos {n : ℕ} (z : Fin n → ℝ) (hn : 0 < n) : 0 < ∑ v, Real.exp (z v) :=
  Finset.sum_pos (fun v _ => Real.exp_pos _) ⟨⟨0, hn⟩, Finset.mem_univ _⟩

theorem log_sum_sub {n : ℕ} (z : Fin n → ℝ) (hn : 0 < n) (m : ℝ) :
    Real.log (∑ v, Real.exp (z v - m)) = rowLse z - m := by
  have h : ∑ v, Real.exp (z v) = Real.exp m * ∑ v, Real.exp (z v - m) := by
    rw [Finset.mul_sum]
    exact Finset.sum_congr rfl fun v _ => by rw [← Real.exp_add, add_sub_cancel]
  unfold rowLse
  rw [h, Real.log_mul (Real.exp_ne_zero _) (sum_exp_pos _ hn).ne', Real.log_exp, add_sub_cancel_left]

/-- A row less its `rowLse` has exponentials that sum to one: subtracting any number first changes nothing. -/
theorem rowLse_normal {n : ℕ} (z : Fin n → ℝ) (hn : 0 < n) : rowLse (fun v => z v - rowLse z) = 0 := by
  have h := log_sum_sub z hn (rowLse z)
  rw [sub_self] at h
  exact h

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the exponentials of real values shifted by a real number, on the extended reals. -/
theorem log_sum_exp {n : ℕ} (z : Fin n → ℝ) (hn : 0 < n) (m : ℝ) :
    Ideal.log (∑ v, Ideal.exp ((z v : EReal) - (m : EReal))) = ((rowLse z - m : ℝ) : EReal) := by
  have h : ∀ v, Ideal.exp ((z v : EReal) - (m : EReal)) = ((Real.exp (z v - m) : ℝ) : EReal) := fun v => by
    rw [← EReal.coe_sub, Ideal.exp_coe]
  simp only [h]
  rw [← coe_sum, Ideal.log_coe, if_neg (not_le.mpr (sum_exp_pos _ hn)), log_sum_sub z hn]

end Cert.Ctc

end
-- ==== Proof.Recursion.lean ====
/- The two recursions over the frames of one sequence, and that they keep the same scores.
   `alpha` is the textbook recursion over the 513 interleaved states. `ker` keeps the even states, the odd states
   and the last even state apart, adds one to every emission and starts one frame earlier. -/
module

public import proofs.«01_k».proof.Proof.Lse

@[expose] public section

noncomputable section

namespace Cert.Ctc

open Idealize.ShloMosaic

/-- The data of one sequence: the emission of label position `s` at frame `t`, and which label positions may be
    entered from the label before them. -/
structure Seq where
  e : ℕ → ℕ → ℝ
  skip : ℕ → Prop

variable (q : Seq)

open Classical in
/-- The emission of interleaved state `j`: `-1` for a star, the label's for a label. -/
def emit (t j : ℕ) : EReal := if j % 2 = 0 then ((-1 : ℝ) : EReal) else (q.e t (j / 2) : EReal)

/-- The score of the state before, `⊥` if there is none. -/
def prev (n : ℕ) (a : ℕ → EReal) (j : ℕ) : EReal := if j < n then ⊥ else a (j - n)

open Classical in
/-- The score of the label before the star before, for a label that may be entered from it. -/
def hop (a : ℕ → EReal) (j : ℕ) : EReal := if j % 2 = 1 ∧ q.skip (j / 2) then prev 2 a j else ⊥

/-- One frame of the interleaved recursion. -/
def alphaStep (t : ℕ) (a : ℕ → EReal) (j : ℕ) : EReal := lse (lse (a j) (prev 1 a j)) (hop q a j) + emit q t j

/-- The scores of the interleaved states after frame `t`. -/
def alpha : ℕ → ℕ → EReal
  | 0 => fun j => if j < 2 then emit q 0 j else ⊥
  | t + 1 => alphaStep q (t + 1) (alpha t)

/-- What the other recursion carries: the even states, the odd states, the last even state. -/
structure Acc where
  ae : ℕ → EReal
  ao : ℕ → EReal
  lam : EReal

/-- The even states' start: no frame read, the first state alone at zero. -/
def acc0 : Acc := ⟨fun s => if s = 0 then 0 else ⊥, fun _ => ⊥, ⊥⟩

open Classical in
/-- One frame of that recursion. -/
def accStep (t : ℕ) (c : Acc) : Acc :=
  { ae := fun s => lse (c.ae s) (prev 1 c.ao s)
    ao := fun s => lse (lse (c.ao s) (c.ae s)) (prev 1 c.ao s + if q.skip s then 0 else ⊥) + ((q.e t s : EReal) + ((1 : ℝ) : EReal))
    lam := lse c.lam (c.ao 255) }

/-- The carried scores before frame `t`. -/
def acc : ℕ → Acc
  | 0 => acc0
  | t + 1 => accStep q t (acc t)

theorem emit_even (t s : ℕ) : emit q t (2 * s) = ((-1 : ℝ) : EReal) := by
  unfold emit; rw [if_pos (by omega)]

theorem emit_odd (t s : ℕ) : emit q t (2 * s + 1) = (q.e t s : EReal) := by
  unfold emit; rw [if_neg (by omega), show (2 * s + 1) / 2 = s by omega]

theorem emit_real (t j : ℕ) : ∃ r : ℝ, emit q t j = r := by
  unfold emit; split <;> exact ⟨_, rfl⟩

theorem prev_ne_top {n : ℕ} {a : ℕ → EReal} (h : ∀ j, a j ≠ ⊤) (j : ℕ) : prev n a j ≠ ⊤ := by
  unfold prev; split
  · exact bot_ne_top
  · exact h _

theorem hop_ne_top {a : ℕ → EReal} (h : ∀ j, a j ≠ ⊤) (j : ℕ) : hop q a j ≠ ⊤ := by
  unfold hop; split
  · exact prev_ne_top h _
  · exact bot_ne_top

theorem alpha_ne_top (t j : ℕ) : alpha q t j ≠ ⊤ := by
  induction t generalizing j with
  | zero =>
    show (if j < 2 then emit q 0 j else ⊥) ≠ ⊤
    split
    · obtain ⟨r, hr⟩ := emit_real q 0 j
      rw [hr]; exact EReal.coe_ne_top _
    · exact bot_ne_top
  | succ t ih =>
    obtain ⟨r, hr⟩ := emit_real q (t + 1) j
    unfold alpha alphaStep
    rw [hr]
    exact add_coe_ne_top (lse_ne_top (lse_ne_top (ih _) (prev_ne_top ih _)) (hop_ne_top q ih _)) _

theorem acc_ne_top (t : ℕ) : (∀ s, (acc q t).ae s ≠ ⊤) ∧ (∀ s, (acc q t).ao s ≠ ⊤) ∧ (acc q t).lam ≠ ⊤ := by
  induction t with
  | zero =>
    refine ⟨fun s => ?_, fun _ => bot_ne_top, bot_ne_top⟩
    unfold acc acc0; dsimp only; split
    · exact EReal.zero_ne_top
    · exact bot_ne_top
  | succ t ih =>
    obtain ⟨he, ho, hl⟩ := ih
    refine ⟨fun s => lse_ne_top (he s) (prev_ne_top ho s), fun s => ?_, lse_ne_top hl (ho 255)⟩
    show lse (lse _ _) _ + _ ≠ ⊤
    rw [← EReal.coe_add]
    refine add_coe_ne_top (lse_ne_top (lse_ne_top (ho s) (he s)) ?_) _
    split
    · rw [add_zero]; exact prev_ne_top ho s
    · rw [EReal.add_bot]; exact bot_ne_top

theorem alpha_even (t s : ℕ) :
    alpha q (t + 1) (2 * s) = lse (alpha q t (2 * s)) (prev 1 (fun s => alpha q t (2 * s + 1)) s) + ((-1 : ℝ) : EReal) := by
  show alphaStep q (t + 1) (alpha q t) (2 * s) = _
  unfold alphaStep hop
  rw [emit_even, if_neg (by omega), lse_bot _ (lse_ne_top (alpha_ne_top q _ _) (prev_ne_top (alpha_ne_top q t) _))]
  congr 2
  unfold prev
  rcases Nat.eq_zero_or_pos s with rfl | h
  · rw [if_pos (by omega), if_pos (by omega)]
  · rw [if_neg (by omega), if_neg (by omega), show 2 * s - 1 = 2 * (s - 1) + 1 by omega]

open Classical in
theorem alpha_odd (t s : ℕ) :
    alpha q (t + 1) (2 * s + 1) = lse (lse (alpha q t (2 * s + 1)) (alpha q t (2 * s)))
      (if q.skip s then prev 1 (fun s => alpha q t (2 * s + 1)) s else ⊥) + (q.e (t + 1) s : EReal) := by
  show alphaStep q (t + 1) (alpha q t) (2 * s + 1) = _
  have h1 : prev 1 (alpha q t) (2 * s + 1) = alpha q t (2 * s) := by
    unfold prev
    rw [if_neg (by omega), show 2 * s + 1 - 1 = 2 * s by omega]
  have h2 : hop q (alpha q t) (2 * s + 1) = if q.skip s then prev 1 (fun s => alpha q t (2 * s + 1)) s else ⊥ := by
    unfold hop
    rw [show (2 * s + 1) / 2 = s by omega]
    by_cases hk : q.skip s
    · rw [if_pos ⟨by omega, hk⟩, if_pos hk]
      unfold prev
      rcases Nat.eq_zero_or_pos s with rfl | h
      · rw [if_pos (by omega), if_pos (by omega)]
      · rw [if_neg (by omega), if_neg (by omega), show 2 * s + 1 - 2 = 2 * (s - 1) + 1 by omega]
    · rw [if_neg (fun h => hk h.2), if_neg hk]
  unfold alphaStep
  rw [emit_odd, h1, h2]

theorem prev_add (a : ℕ → EReal) (c : ℝ) (s : ℕ) : prev 1 (fun s => a s + (c : EReal)) s = prev 1 a s + (c : EReal) := by
  unfold prev
  split
  · rw [EReal.bot_add]
  · rfl

theorem add_coe_add (x : EReal) (a b : ℝ) : x + (a : EReal) + (b : EReal) = x + ((a + b : ℝ) : EReal) := by
  rw [add_assoc, ← EReal.coe_add]

/-- After frame `t` the carried even, odd and last even scores are the interleaved ones plus `t + 1`. -/
theorem acc_eq (t : ℕ) :
    (∀ s, (acc q (t + 1)).ae s = alpha q t (2 * s) + ((t + 1 : ℝ) : EReal))
    ∧ (∀ s, (acc q (t + 1)).ao s = alpha q t (2 * s + 1) + ((t + 1 : ℝ) : EReal))
    ∧ (acc q (t + 1)).lam = alpha q t 512 + ((t + 1 : ℝ) : EReal) := by
  induction t with
  | zero =>
    refine ⟨fun s => ?_, fun s => ?_, ?_⟩
    · show lse (if s = 0 then 0 else ⊥) (prev 1 (fun _ => ⊥) s) = (if 2 * s < 2 then emit q 0 (2 * s) else ⊥) + _
      rw [show prev 1 (fun _ => ⊥) s = ⊥ by unfold prev; split <;> rfl, emit_even]
      rcases Nat.eq_zero_or_pos s with rfl | h
      · rw [if_pos rfl, if_pos (by omega), lse_bot _ EReal.zero_ne_top, ← EReal.coe_add]
        norm_num
      · rw [if_neg (by omega), if_neg (by omega), lse_bot _ bot_ne_top, EReal.bot_add]
    · show lse (lse ⊥ (if s = 0 then 0 else ⊥)) (prev 1 (fun _ => ⊥) s + _) + _
        = (if 2 * s + 1 < 2 then emit q 0 (2 * s + 1) else ⊥) + _
      rw [show prev 1 (fun _ => ⊥) s = ⊥ by unfold prev; split <;> rfl, emit_odd, EReal.bot_add]
      rcases Nat.eq_zero_or_pos s with rfl | h
      · rw [if_pos rfl, if_pos (by omega), bot_lse _ EReal.zero_ne_top, lse_bot _ EReal.zero_ne_top, zero_add]
        norm_num
      · rw [if_neg (by omega), if_neg (by omega), lse_bot _ bot_ne_top, lse_bot _ bot_ne_top, EReal.bot_add, EReal.bot_add]
    · show lse ⊥ ⊥ = (if 512 < 2 then emit q 0 512 else ⊥) + _
      rw [if_neg (by omega), lse_bot _ bot_ne_top, EReal.bot_add]
  | succ t ih =>
    obtain ⟨he, ho, hl⟩ := ih
    have ho' : (acc q (t + 1)).ao = fun s => alpha q t (2 * s + 1) + ((t + 1 : ℝ) : EReal) := funext ho
    have hp : ∀ s, prev 1 (acc q (t + 1)).ao s = prev 1 (fun s => alpha q t (2 * s + 1)) s + ((t + 1 : ℝ) : EReal) := fun s => by
      rw [ho', prev_add]
    have hn : ∀ s, prev 1 (fun s => alpha q t (2 * s + 1)) s ≠ ⊤ := fun s => prev_ne_top (fun _ => alpha_ne_top q _ _) s
    refine ⟨fun s => ?_, fun s => ?_, ?_⟩
    · show lse ((acc q (t + 1)).ae s) (prev 1 (acc q (t + 1)).ao s) = _
      rw [he, hp, lse_add (alpha_ne_top q _ _) (hn s), alpha_even, add_coe_add]
      congr 2
      push_cast; ring
    · show lse (lse ((acc q (t + 1)).ao s) ((acc q (t + 1)).ae s)) (prev 1 (acc q (t + 1)).ao s + _) + _ = _
      rw [he, ho, hp, lse_add (alpha_ne_top q _ _) (alpha_ne_top q _ _), alpha_odd]
      by_cases hk : q.skip s
      · rw [if_pos hk, if_pos hk, add_zero, lse_add (lse_ne_top (alpha_ne_top q _ _) (alpha_ne_top q _ _)) (hn s), ← EReal.coe_add,
          add_coe_add, add_coe_add]
        congr 2
        push_cast; ring
      · rw [if_neg hk, if_neg hk, EReal.add_bot, lse_bot _ (add_coe_ne_top (lse_ne_top (alpha_ne_top q _ _) (alpha_ne_top q _ _)) _),
          lse_bot _ (lse_ne_top (alpha_ne_top q _ _) (alpha_ne_top q _ _)), ← EReal.coe_add, add_coe_add, add_coe_add]
        congr 2
        push_cast; ring
    · show lse (acc q (t + 1)).lam ((acc q (t + 1)).ao 255) = alpha q (t + 1) (2 * 256) + _
      rw [hl, ho, lse_add (alpha_ne_top q _ _) (alpha_ne_top q _ _), alpha_even, add_coe_add]
      show _ = lse (alpha q t 512) (alpha q t 511) + _
      congr 2
      push_cast; ring

/-- The final score: the last two states of the interleaved recursion, in either form. -/
theorem score_eq (t : ℕ) :
    lse (acc q (t + 1)).lam ((acc q (t + 1)).ao 255) + ((-(t + 1) : ℝ) : EReal) = lse (alpha q t 512) (alpha q t 511) := by
  obtain ⟨_, ho, hl⟩ := acc_eq q t
  rw [ho, hl, lse_add (alpha_ne_top q _ _) (alpha_ne_top q _ _), add_coe_add, add_neg_cancel, EReal.coe_zero, add_zero]

end Cert.Ctc

end
-- ==== Proof.Inputs.lean ====
/- The arguments of the two programs, what the precondition says of them, and the quantities both programs compute:
   logits, normalised scores, and the data of each sequence. -/
module

public import proofs.«01_k».proof.Proof.Recursion
public import Idealize.ShloMosaic.Lib.Pointwise

@[expose] public section

noncomputable section

namespace Cert.Ctc

open Idealize.ShloMosaic

/-- The six arguments, the four number arguments on the extended reals. -/
structure Args where
  x : FVec Ideal ⟨3, ![32, 2048, 1024]⟩ .f32
  w : FVec Ideal ⟨2, ![56, 1024]⟩ .f32
  bias : FVec Ideal ⟨1, ![56]⟩ .f32
  tg : IVec ⟨2, ![32, 256]⟩ 32
  il : IVec ⟨1, ![32]⟩ 32
  tl : IVec ⟨1, ![32]⟩ 32

/-- What the precondition says: real entries, labels below 56, full lengths. -/
structure Args.Ok (a : Args) : Prop where
  x : ∀ i, ∃ r : ℝ, a.x i = (r : EReal)
  w : ∀ i, ∃ r : ℝ, a.w i = (r : EReal)
  bias : ∀ i, ∃ r : ℝ, a.bias i = (r : EReal)
  tg : ∀ i, (a.tg i).toNat < 56
  il : ∀ i, 2048 ≤ (a.il i).toInt
  tl : ∀ i, a.tl i = 256#32

namespace Args

variable (a : Args)

/-- The logit of class `v` at frame `t` of sequence `r`. -/
def logit (r : Fin 32) (t : Fin 2048) (v : Fin 56) : ℝ :=
  ∑ d : Fin 1024, (a.x (ix3 r t d)).toReal * (a.w (ix2 v d)).toReal + (a.bias (ix1 v)).toReal

/-- The normalised logit: the logarithm of the probability of class `v`. -/
def lp (r : Fin 32) (t : Fin 2048) (v : Fin 56) : ℝ := a.logit r t v - rowLse (a.logit r t)

/-- The label at position `s`. -/
def label (r : Fin 32) (s : Fin 256) : Fin 56 := Fin.ofNat 56 (a.tg (ix2 r s)).toNat

/-- The data of sequence `r`. -/
def seq (r : Fin 32) : Seq where
  e t s := a.lp r (Fin.ofNat 2048 t) (a.label r (Fin.ofNat 256 s))
  skip s := s = 0 ∨ a.tg (ix2 r (Fin.ofNat 256 s)) ≠ a.tg (ix2 r (Fin.ofNat 256 (s - 1)))

/-- The loss of sequence `r`. -/
def loss (r : Fin 32) : EReal := -lse (alpha (a.seq r) 2047 512) (alpha (a.seq r) 2047 511)

/-- The sum of products that a logit is, on the extended reals. -/
theorem logit_coe (h : a.Ok) (r : Fin 32) (t : Fin 2048) (v : Fin 56) :
    ∑ d : Fin 1024, a.x (ix3 r t d) * a.w (ix2 v d) + a.bias (ix1 v) = (a.logit r t v : EReal) := by
  unfold logit
  rw [EReal.coe_add, coe_sum]
  refine congrArg₂ (· + ·) ?_ ?_
  · refine Finset.sum_congr rfl fun d _ => ?_
    obtain ⟨p, hp⟩ := h.x (ix3 r t d)
    obtain ⟨q, hq⟩ := h.w (ix2 v d)
    rw [hp, hq, EReal.toReal_coe, EReal.toReal_coe, EReal.coe_mul]
  · obtain ⟨p, hp⟩ := h.bias (ix1 v)
    rw [hp, EReal.toReal_coe]

end Args

/-- The largest of finitely many real values, and of the start `⊥`, is real. -/
theorem fold_max_real {n : ℕ} (hn : 0 < n) (z : Fin n → ℝ) (f : Fin n → EReal) (hf : ∀ v, f v = z v) :
    ∃ m : ℝ, Finset.univ.fold max (⊥ : EReal) f = m := by
  have key : ∀ s : Finset (Fin n), s.Nonempty → ∃ m : ℝ, s.fold max (⊥ : EReal) f = m := by
    intro s hs
    induction hs using Finset.Nonempty.cons_induction with
    | singleton a => exact ⟨z a, by rw [Finset.fold_singleton, hf, max_eq_left bot_le]⟩
    | cons a s ha _ ih =>
      obtain ⟨m, hm⟩ := ih
      rw [Finset.fold_cons, hm, hf]
      rcases max_choice (z a : EReal) (m : EReal) with h | h <;> rw [h] <;> exact ⟨_, rfl⟩
  exact key _ ⟨⟨0, hn⟩, Finset.mem_univ _⟩

/-- The bit pattern of minus infinity denotes `⊥`. -/
theorem ofBits_neg_inf : Ideal.ofBits .f32 0xFF800000#32 = ⊥ := by
  simp [Ideal.ofBits, Ideal.ieee]

/-- The bit pattern of infinity denotes `⊤`. -/
theorem ofBits_inf : Ideal.ofBits .f32 0x7F800000#32 = ⊤ := by
  simp [Ideal.ofBits, Ideal.ieee]

/-- The bit pattern of minus one. -/
theorem ofBits_neg_one : Ideal.ofBits .f32 0xBF800000#32 = ((-1 : ℝ) : EReal) := by
  simp [Ideal.ofBits, Ideal.ieee, -EReal.coe_mul, -EReal.coe_neg]; norm_num

/-- The bit pattern of minus 2048. -/
theorem ofBits_neg_2048 : Ideal.ofBits .f32 0xC5000000#32 = ((-2048 : ℝ) : EReal) := by
  simp [Ideal.ofBits, Ideal.ieee, -EReal.coe_mul, -EReal.coe_neg]; norm_num

end Cert.Ctc

end
-- ==== Proof.Precond.lean ====
/- What the precondition says, read element by element. -/
module

public import proofs.«01_k».proof.Proof.Inputs
public import proofs.«01_k».proof.Pre_inputs_ok
public import Idealize.ShloMosaic.Lib.ReduceAll

@[expose] public section

noncomputable section

namespace Cert.Ctc.Pre

open Idealize.ShloMosaic Cert.Pre_inputs_ok

/-- The shape facts that the precondition's operations take. -/
theorem facts : Cert.Pre_inputs_ok.Facts := by
  constructor <;> decide

instance : Subsingleton S_.Idx := ⟨fun i j => funext fun k => k.elim0⟩

/-- A value whose absolute value is below infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [ofBits_inf] at h
  have h' : max x (-x) < ⊤ := by
    by_contra hc
    have : FloatOps.cmpf (F := Ideal) (φ := .f32) .olt (FloatOps.absf (F := Ideal) (φ := .f32) x) ⊤ = 0#1 := by
      show BitVec.ofBool (decide (max x (-x) < ⊤)) = 0#1
      rw [decide_eq_false hc]
      rfl
    rw [this] at h
    exact absurd h (by decide)
  induction x with
  | bot => simp at h'
  | top => simp at h'
  | coe r => exact ⟨r, rfl⟩

/-- Both bits are set. -/
theorem and_one {x y : IVec S_ 1} {j : S_.Idx} (h : andi x y j = 1#1) : x j = 1#1 ∧ y j = 1#1 := by
  have key : ∀ p q : BitVec 1, IntOp.andi p q = 1#1 → p = 1#1 ∧ q = 1#1 := by decide
  exact key _ _ h

/-- The precondition gives the facts the proof uses. -/
theorem ok [Facts] (a : Args) (h : Cert.Pre_inputs_ok.fn (F := Ideal) a.x a.w a.bias a.tg a.il a.tl = fun _ => 1#1) : a.Ok := by
  have h0 := congrFun h (fun k => k.elim0)
  unfold fn fn_part1 at h0
  dsimp only at h0
  obtain ⟨h1, htl⟩ := and_one h0
  obtain ⟨h2, hil⟩ := and_one h1
  obtain ⟨h3, htg⟩ := and_one h2
  obtain ⟨h4, hb⟩ := and_one h3
  obtain ⟨hx, hw⟩ := and_one h4
  refine ⟨fun i => real_of_lt _ (Host.reduce_andi_all _ _ _ _ _ hx i), fun i => real_of_lt _ (Host.reduce_andi_all _ _ _ _ _ hw i),
    fun i => real_of_lt _ (Host.reduce_andi_all _ _ _ _ _ hb i), fun i => ?_, fun i => ?_, fun i => ?_⟩
  · have key : ∀ p q : BitVec 1, IntOp.andi p q = 1#1 → p = 1#1 ∧ q = 1#1 := by decide
    obtain ⟨hge, hlt⟩ := key _ _ (Host.reduce_andi_all _ _ _ _ _ htg i)
    have h5 : (0#32).toInt ≤ (a.tg i).toInt := IntOp.cmpi_sge.1 hge
    have h6 : (a.tg i).toInt < (56#32).toInt := IntOp.cmpi_slt.1 hlt
    have h7 : (0#32).toInt = 0 := rfl
    have h8 : (56#32).toInt = 56 := rfl
    rw [h7] at h5
    rw [h8] at h6
    rw [BitVec.toInt_eq_toNat_cond] at h5 h6
    have := (a.tg i).isLt
    split at h5 <;> omega
  · exact IntOp.cmpi_sge.1 (Host.reduce_andi_all _ _ _ _ _ hil i)
  · exact IntOp.cmpi_eq.1 (Host.reduce_andi_all _ _ _ _ _ htl i)

end Cert.Ctc.Pre

end
-- ==== Proof.RefTrip.lean ====
/- One trip of the reference's loop, read at an index: it is one frame of the interleaved recursion. -/
module

public import proofs.«01_k».proof.Proof.Inputs
public import proofs.«01_k».proof.Proof.Gen.ReferenceIdeal.Step
public import Idealize.ShloMosaic.Lib.DynamicIndex

@[expose] public section

noncomputable section

namespace Cert.Ctc.Ref

open Idealize.ShloMosaic Cert.ReferenceIdeal Cert.ReferenceIdeal.Gen Cert.ReferenceIdeal.Step

/-- Before trip `n` the loop's state holds the scores after frame `n`, and what the loop does not change. -/
structure Holds (a : Args) (n : ℕ) (s : State Ideal) : Prop where
  f0 : ∀ (k : Fin 2047) (r : Fin 32) (v : Fin 56), s.main_v77_0 (ix3 k r v) = (a.lp r ⟨k.val + 1, by omega⟩ v : EReal)
  f2 : ∀ (r : Fin 32) (j : Fin 513), s.main_v77_2 (ix2 r j) = 1#1 ↔ (j.val % 2 = 1 ∧ (a.seq r).skip (j.val / 2))
  f3 : ∀ (r : Fin 32) (j : Fin 513), s.main_v77_3 (ix2 r j) = if j.val % 2 = 0 then 0#32 else a.tg (ix2 r (Fin.ofNat 256 (j.val / 2)))
  f5 : s.main_v77_5 = a.il
  f7 : ∀ (r : Fin 32) (j : Fin 513), s.main_v77_7 (ix2 r j) = alpha (a.seq r) n j.val

variable {a : Args} {n : ℕ} {s : State Ideal}

/-- A gather of single elements by pairs of coordinates, at one place. -/
theorem gather_pair {α : Type} (x : S32x56.Idx → α) (idx : IVec S32x513x2 32) (r : Fin 32) (j : Fin 513) (p : Fin 32) (q : Fin 56)
    (h0 : (idx (ix3 r j 0)).toInt.toNat = p.val) (h1 : (idx (ix3 r j 1)).toInt.toNat = q.val) :
    Host.gather gather_S32x56_S32x513x2_S32x513_n_01_n_n_01_2_11 x idx (ix2 r j) = x (ix2 p q) := by
  unfold Host.gather
  refine congrArg x (funext fun b => Fin.ext ?_)
  match b with
  | ⟨0, _⟩ =>
    show GatherDims.start _ _ idx 0 + GatherDims.batchCoord _ _ 0 + GatherDims.offCoord _ _ 0 = p.val
    rw [GatherDims.batchCoord_eq_zero _ _ _ (fun h => List.not_mem_nil h),
      GatherDims.offCoord_eq_zero _ _ _ (fun h => ((GatherDims.mem_sKept _ _).mp h).1 (by decide))]
    unfold GatherDims.start
    rw [dif_pos (by decide)]
    have hsi : GatherDims.siIdx gather_S32x56_S32x513x2_S32x513_n_01_n_n_01_2_11 (ix2 r j)
        ⟨List.idxOf (0 : Fin 2) [0, 1], by decide⟩ = ix3 r j 0 := by
      funext b'; refine Fin.ext ?_
      match b' with
      | ⟨0, _⟩ => rfl
      | ⟨1, _⟩ => rfl
      | ⟨2, _⟩ => rfl
    refine Eq.trans (congrArg (fun z => min (idx z).toInt.toNat 31 + 0 + 0) hsi) ?_
    rw [h0]
    have := p.isLt
    omega
  | ⟨1, _⟩ =>
    show GatherDims.start _ _ idx 1 + GatherDims.batchCoord _ _ 1 + GatherDims.offCoord _ _ 1 = q.val
    rw [GatherDims.batchCoord_eq_zero _ _ _ (fun h => List.not_mem_nil h),
      GatherDims.offCoord_eq_zero _ _ _ (fun h => ((GatherDims.mem_sKept _ _).mp h).1 (by decide))]
    unfold GatherDims.start
    rw [dif_pos (by decide)]
    have hsi : GatherDims.siIdx gather_S32x56_S32x513x2_S32x513_n_01_n_n_01_2_11 (ix2 r j)
        ⟨List.idxOf (1 : Fin 2) [0, 1], by decide⟩ = ix3 r j 1 := by
      funext b'; refine Fin.ext ?_
      match b' with
      | ⟨0, _⟩ => rfl
      | ⟨1, _⟩ => rfl
      | ⟨2, _⟩ => rfl
    refine Eq.trans (congrArg (fun z => min (idx z).toInt.toNat 55 + 0 + 0) hsi) ?_
    rw [h1]
    have := q.isLt
    omega

/-- The two forms of a selected value. -/
theorem select_eq {α : Type} (c : BitVec 1) (x y : α) : Scalar.select c x y = if c = 1#1 then x else y := by
  rfl

/-- The two-argument logarithm of a sum of exponentials as the reference writes it. -/
theorem logaddexp_eq {x y : EReal} (hx : x ≠ ⊤) (hy : y ≠ ⊤) :
    (if x - y ≠ x - y then x + y else max x y + Ideal.log1p (Ideal.exp (-max (x - y) (-(x - y))))) = lse x y := by
  rw [if_neg (fun h => h rfl), lse_log1p hx hy]

/-- A state's parity as the reference computes it. -/
theorem parity (j : Fin 513) : IntOp.cmpi .eq (IntOp.remsi .host (BitVec.ofNat 32 j.val) 2#32) 0#32 = 1#1 ↔ j.val % 2 = 0 := by
  revert j; decide +kernel

/-- The star's emission: minus one, since the probabilities of a frame sum to one. -/
theorem star_eq (a : Args) (r : Fin 32) (t : Fin 2048) (f : Fin 56 → EReal) (hf : ∀ v, f v = (a.lp r t v : EReal)) :
    Ideal.ofBits .f32 3212836864#32 + (Finset.univ.fold max (Ideal.ofBits .f32 4286578688#32) f
      + Ideal.log (∑ v, Ideal.exp (f v - Finset.univ.fold max (Ideal.ofBits .f32 4286578688#32) f))) = ((-1 : ℝ) : EReal) := by
  rw [ofBits_neg_inf, ofBits_neg_one]
  obtain ⟨m, hm⟩ := fold_max_real (by omega) (a.lp r t) f hf
  rw [hm]
  simp only [hf]
  rw [log_sum_exp (a.lp r t) (by omega) m, show rowLse (a.lp r t) = 0 from rowLse_normal (a.logit r t) (by omega),
    ← EReal.coe_add, ← EReal.coe_add]
  congr 1
  ring

/-- The scores of the frame that the trip reads. -/
theorem b3_apply (h : Holds a n s) (hn : n < 2047) (r : Fin 32) (v : Fin 56) :
    b3 n s (ix2 r v) = (a.lp r ⟨n + 1, by omega⟩ v : EReal) := by
  rw [← h.f0 ⟨n, hn⟩ r v]
  unfold b3 b2
  rw [Host.dynamicSlice_eq_extractStridedSlice S1x32x56 _ _ ![n, 0, 0] _ (by
    refine ⟨rfl, fun k => ?_⟩
    match k with
    | ⟨0, _⟩ => show n + 1 ≤ 2047; omega
    | ⟨1, _⟩ => exact le_refl 32
    | ⟨2, _⟩ => exact le_refl 56) (by
    intro k
    match k with
    | ⟨0, _⟩ => exact toInt_ofNat_of_lt (by omega)
    | ⟨1, _⟩ => rfl
    | ⟨2, _⟩ => rfl)]
  pointwise

/-- The trip's number plus one. -/
theorem b5_apply (hn : n < 2047) : b5 n s ix0 = BitVec.ofNat 32 (n + 1) := by
  unfold b5 b4
  rw [Host.dynamicSlice_eq_extractStridedSlice S1 _ _ ![n] _ (by
    refine ⟨rfl, fun k => ?_⟩
    match k with
    | ⟨0, _⟩ => show n + 1 ≤ 2047; omega) (by
    intro k
    match k with
    | ⟨0, _⟩ => exact toInt_ofNat_of_lt (by omega))]
  pointwise [K_main_v76, K_main_v75, K_main_v74, K_main_c_14]
  show BitVec.ofNat 32 1 + BitVec.ofNat 32 n = _
  rw [← BitVec.ofNat_add, Nat.add_comm]

/-- The scores one state back. -/
theorem b9_apply (h : Holds a n s) (r : Fin 32) (j : Fin 513) :
    b9 n s (ix2 r j) = prev 1 (alpha (a.seq r) n) j.val := by
  pointwise [b9, b8, b7, b6]
  unfold prev
  have := j.isLt
  by_cases h1 : 1 ≤ j.val
  · rw [dif_pos ⟨h1, by omega⟩, if_neg (by omega)]
    exact h.f7 r ⟨j.val - 1, by omega⟩
  · rw [dif_neg (by omega), if_pos (by omega), ofBits_neg_inf]

/-- The scores two states back. -/
theorem b13_apply (h : Holds a n s) (r : Fin 32) (j : Fin 513) :
    b13 n s (ix2 r j) = prev 2 (alpha (a.seq r) n) j.val := by
  pointwise [b13, b12, b11, b10]
  unfold prev
  have := j.isLt
  by_cases h1 : 2 ≤ j.val
  · rw [dif_pos ⟨h1, by omega⟩, if_neg (by omega)]
    exact h.f7 r ⟨j.val - 2, by omega⟩
  · rw [dif_neg (by omega), if_pos (by omega), ofBits_neg_inf]

/-- The scores two states back where the path may hop over a star. -/
theorem b16_apply (h : Holds a n s) (r : Fin 32) (j : Fin 513) :
    b16 n s (ix2 r j) = hop (a.seq r) (alpha (a.seq r) n) j.val := by
  pointwise [b16, b15, b14]
  rw [select_eq, b13_apply h, ofBits_neg_inf]
  unfold hop
  by_cases hc : j.val % 2 = 1 ∧ (a.seq r).skip (j.val / 2)
  · rw [if_pos ((h.f2 r j).2 hc), if_pos hc]
  · rw [if_neg (fun h' => hc ((h.f2 r j).1 h')), if_neg hc]

/-- The first two of the three scores that reach a state. -/
theorem b26_apply (h : Holds a n s) (r : Fin 32) (j : Fin 513) :
    b26 n s (ix2 r j) = lse (alpha (a.seq r) n j.val) (prev 1 (alpha (a.seq r) n) j.val) := by
  pointwise [b26, b19, b20, b25, b24, b23, b22, b21, b18, b17]
  rw [b9_apply h, h.f7]
  exact logaddexp_eq (alpha_ne_top _ _ _) (prev_ne_top (alpha_ne_top _ _) _)

/-- All three scores that reach a state. -/
theorem b36_apply (h : Holds a n s) (r : Fin 32) (j : Fin 513) :
    b36 n s (ix2 r j) = lse (lse (alpha (a.seq r) n j.val) (prev 1 (alpha (a.seq r) n) j.val))
      (hop (a.seq r) (alpha (a.seq r) n) j.val) := by
  pointwise [b36, b29, b30, b35, b34, b33, b32, b31, b28, b27]
  rw [b26_apply h, b16_apply h]
  exact logaddexp_eq (lse_ne_top (alpha_ne_top _ _ _) (prev_ne_top (alpha_ne_top _ _) _)) (hop_ne_top _ (alpha_ne_top _ _) _)

/-- The star's emission is minus one. -/
theorem b50_apply (h : Holds a n s) (hn : n < 2047) (r : Fin 32) : b50 n s (ix2 r 0) = ((-1 : ℝ) : EReal) := by
  pointwise [b50, b49, b48, b47, b46, b45, b44, b43, b42, b41, b40, b39, b38, b37]
  exact star_eq a r _ (fun v => b3 n s (ix2 r v)) (fun v => b3_apply h hn r v)

/-- A number that is not negative keeps its value when indices from the end are wrapped. -/
theorem wrap_eq (x d : BitVec 32) (hx : x.toNat < 2 ^ 31) : Scalar.select (IntOp.cmpi .slt x 0#32) (IntOp.addi x d) x = x := by
  have hlt : x.slt 0#32 = false := by
    simp only [BitVec.slt, BitVec.toInt_zero, decide_eq_false_iff_not, Int.not_lt]
    rw [BitVec.toInt_eq_toNat_of_lt (by omega)]
    omega
  show (if BitVec.ofBool (x.slt 0#32) = 1 then _ else _) = _
  rw [hlt]
  rfl

/-- The emission of a token's state: the score of its label. -/
theorem b71_apply (h : Holds a n s) (ha : a.Ok) (hn : n < 2047) (r : Fin 32) (j : Fin 513) (hj : j.val % 2 = 1) :
    b71 n s (ix2 r j) = ((a.seq r).e (n + 1) (j.val / 2) : EReal) := by
  unfold b71
  have htg := ha.tg (ix2 r (Fin.ofNat 256 (j.val / 2)))
  rw [gather_pair _ _ r j r (a.label r (Fin.ofNat 256 (j.val / 2))), b3_apply h hn]
  · unfold Args.seq
    dsimp only
    congr 3
    show n + 1 = (n + 1) % 2048
    rw [Nat.mod_eq_of_lt (by omega)]
  · have : b70 n s (ix3 r j 0) = BitVec.ofNat 32 r.val := by
      pointwise [b70, b69, b68, b67, b59, b58, b57, b56, b55, b54, b53, b52, b51, b66, b65, b64, b63, b62, b61, b60]
      refine wrap_eq _ _ ?_
      rw [BitVec.toNat_ofNat, Nat.mod_eq_of_lt (by omega)]
      omega
    rw [this, toInt_ofNat_of_lt (by omega)]
    rfl
  · have : b70 n s (ix3 r j 1) = a.tg (ix2 r (Fin.ofNat 256 (j.val / 2))) := by
      pointwise [b70, b69, b68, b67, b59, b58, b57, b56, b55, b54, b53, b52, b51, b66, b65, b64, b63, b62, b61, b60]
      rw [h.f3, if_neg (by omega)]
      exact wrap_eq _ _ (by omega)
    rw [this, BitVec.toInt_eq_toNat_of_lt (by omega)]
    unfold Args.label
    show (_ : ℕ) = _ % 56
    rw [Nat.mod_eq_of_lt htg]
    rfl

/-- The emission of a state. -/
theorem b74_apply (h : Holds a n s) (ha : a.Ok) (hn : n < 2047) (r : Fin 32) (j : Fin 513) :
    b74 n s (ix2 r j) = emit (a.seq r) (n + 1) j.val := by
  pointwise [b74, b73, b72, K_main_v26, K_main_v25, K_main_v24, K_main_c_3, K_main_v23, K_main_v22, K_main_v21, K_main_c_2]
  rw [select_eq]
  unfold emit
  by_cases hj : j.val % 2 = 0
  · rw [if_pos ((parity j).2 hj), if_pos hj, b50_apply h hn]
  · rw [if_neg (fun h' => hj ((parity j).1 h')), if_neg hj, b71_apply h ha hn r j (by omega)]

/-- One trip is one step of the recursion. -/
theorem b80_apply (h : Holds a n s) (ha : a.Ok) (hn : n < 2047) (r : Fin 32) (j : Fin 513) :
    b80 n s (ix2 r j) = alpha (a.seq r) (n + 1) j.val := by
  pointwise [b80, b79, b78, b77, b76, b75]
  rw [b5_apply hn, b36_apply h, b74_apply h ha hn, h.f5, select_eq, if_pos]
  · rfl
  · have hil := ha.il (ix1 r)
    have : (BitVec.ofNat 32 (n + 1)).slt (a.il (ix1 r)) = true := by
      simp only [BitVec.slt, decide_eq_true_eq]
      rw [toInt_ofNat_of_lt (by omega)]
      omega
    show BitVec.ofBool _ = 1#1
    rw [this]
    rfl

/-- What the state holds is kept by a trip. -/
theorem Holds.step (h : Holds a n s) (ha : a.Ok) (hn : n < 2047) : Holds a (n + 1) (Step.step n s) where
  f0 := h.f0
  f2 := h.f2
  f3 := h.f3
  f5 := h.f5
  f7 := fun r j => by rw [step_main_v77_7]; exact b80_apply h ha hn r j

end Cert.Ctc.Ref

end
-- ==== Proof.RefInit.lean ====
/- What the reference computes before its loop: the normalised scores, the interleaved labels, the places where a star may
   be hopped over, and the scores after the first frame. -/
module

public import proofs.«01_k».proof.Proof.RefTrip

@[expose] public section

noncomputable section

namespace Cert.Ctc.Ref

open Idealize.ShloMosaic Cert.ReferenceIdeal Cert.ReferenceIdeal.Gen Cert.ReferenceIdeal.Step

variable {a : Args}

/-- The reference's logits. -/
theorem v3_apply (ha : a.Ok) (r : Fin 32) (t : Fin 2048) (v : Fin 56) :
    A_main_v3 (F := Ideal) a.x a.w a.bias a.tg (ix3 r t v) = (a.logit r t v : EReal) := by
  pointwise [A_main_v3, A_main_v2, A_main_v1, A_main_v0]
  exact a.logit_coe ha r t v

/-- The reference's normalised scores. -/
theorem v13_apply (ha : a.Ok) (r : Fin 32) (t : Fin 2048) (v : Fin 56) :
    A_main_v13 (F := Ideal) a.x a.w a.bias a.tg (ix3 r t v) = (a.lp r t v : EReal) := by
  pointwise [A_main_v13, A_main_v12, A_main_v11, A_main_v10, A_main_v9, A_main_v8, A_main_v7, A_main_v6, A_main_v5, A_main_v4,
    K_main_cst, K_main_cst_0]
  rw [ofBits_neg_inf]
  obtain ⟨m, hm⟩ := fold_max_real (by omega) (a.logit r t) (fun v => A_main_v3 (F := Ideal) a.x a.w a.bias a.tg (ix3 r t v)) (v3_apply ha r t)
  rw [hm]
  simp only [v3_apply ha]
  rw [log_sum_exp (a.logit r t) (by omega) m, ← EReal.coe_sub, ← EReal.coe_sub]
  unfold Args.lp
  congr 1
  ring

/-- The interleaved labels: label zero at the stars. -/
theorem v20_apply (r : Fin 32) (j : Fin 513) :
    A_main_v20 (F := Ideal) a.x a.w a.bias a.tg (ix2 r j) = if j.val % 2 = 0 then 0#32 else a.tg (ix2 r (Fin.ofNat 256 (j.val / 2))) := by
  pointwise [A_main_v20, A_main_v19, A_main_v18, A_main_v17, K_main_v16, K_main_v15, K_main_c, K_main_call0_v0, K_main_c_1]
  have := j.isLt
  by_cases h : j.val < 512
  · rw [dif_pos h]
    by_cases h' : j.val % 2 = 0
    · rw [dif_pos (by omega), if_pos h']
    · rw [dif_neg (by omega), if_neg h']
      congr 2
      exact Fin.ext (Nat.mod_eq_of_lt (by omega)).symm
  · rw [dif_neg h, if_pos (by omega)]
    rfl

/-- Both bits are set. -/
theorem and_bits (x y : BitVec 1) : IntOp.andi x y = 1#1 ↔ x = 1#1 ∧ y = 1#1 := by
  revert x y; decide

/-- The complement of a bit is set. -/
theorem not_bit (x : BitVec 1) : ~~~x = 1#1 ↔ ¬ x = 1#1 := by
  revert x; decide

/-- The comparison for a difference. -/
theorem ne_bit (x y : BitVec 32) : IntOp.cmpi .ne x y = 1#1 ↔ x ≠ y := by
  show BitVec.ofBool (x != y) = 1#1 ↔ _
  by_cases h : x = y
  · simp [h]
  · simp [h, bne_iff_ne.mpr h]

/-- Where a star may be hopped over. -/
theorem v32_apply (ha : a.Ok) (r : Fin 32) (j : Fin 513) :
    A_main_v32 (F := Ideal) a.x a.w a.bias a.tg (ix2 r j) = 1#1 ↔ (j.val % 2 = 1 ∧ (a.seq r).skip (j.val / 2)) := by
  pointwise [A_main_v32, A_main_v30, A_main_v28, A_main_v27, K_main_v31, K_main_v29, K_main_v26, K_main_v25, K_main_v24, K_main_c_3,
    K_main_v23, K_main_v22, K_main_v21, K_main_c_2, K_main_call1_v0, K_main_c_4]
  rw [and_bits, not_bit, ne_bit, parity, v20_apply]
  have := j.isLt
  by_cases hj : j.val % 2 = 0
  · exact ⟨fun h => absurd hj h.1, fun h => by omega⟩
  rw [if_neg hj]
  refine and_congr (by omega) ?_
  unfold Args.seq
  dsimp only
  by_cases h2 : 2 ≤ j.val
  · rw [dif_pos ⟨h2, by omega⟩, v20_apply, if_neg (by show ¬ (j.val - 2) % 2 = 0; omega),
      show ((⟨j.val - 2, by omega⟩ : Fin 513) : ℕ) / 2 = j.val / 2 - 1 by show (j.val - 2) / 2 = _; omega]
    exact ⟨fun h => Or.inr h, fun h => h.resolve_left (by omega)⟩
  · rw [dif_neg (by omega)]
    refine iff_of_true (fun h => ?_) (Or.inl (by omega))
    have h1 := ha.tg (ix2 r (Fin.ofNat 256 (j.val / 2)))
    rw [h] at h1
    exact absurd h1 (by decide)

/-- The scores of the first frame. -/
theorem v38_apply (ha : a.Ok) (r : Fin 32) (v : Fin 56) : A_main_v38 (F := Ideal) a.x a.w a.bias a.tg (ix2 r v) = (a.lp r 0 v : EReal) := by
  pointwise [A_main_v38, A_main_v37, A_main_v14]
  exact v13_apply ha r 0 v

/-- The first frame's star. -/
theorem v49_apply (ha : a.Ok) (r : Fin 32) : A_main_v49 (F := Ideal) a.x a.w a.bias a.tg (ix2 r 0) = ((-1 : ℝ) : EReal) := by
  pointwise [A_main_v49, A_main_v47, A_main_v46, A_main_v45, A_main_v44, A_main_v43, A_main_v42, A_main_v41, A_main_v40, A_main_v39,
    K_main_v48, K_main_cst_6, K_main_cst_7, K_main_cst_8]
  exact star_eq a r _ (fun v => A_main_v38 (F := Ideal) a.x a.w a.bias a.tg (ix2 r v)) (fun v => v38_apply ha r v)

/-- The first frame's token scores. -/
theorem v66_apply (ha : a.Ok) (r : Fin 32) (j : Fin 513) (hj : j.val % 2 = 1) :
    A_main_v66 (F := Ideal) a.x a.w a.bias a.tg (ix2 r j) = ((a.seq r).e 0 (j.val / 2) : EReal) := by
  unfold A_main_v66
  have htg := ha.tg (ix2 r (Fin.ofNat 256 (j.val / 2)))
  rw [gather_pair _ _ r j r (a.label r (Fin.ofNat 256 (j.val / 2))), v38_apply ha]
  · rfl
  · have : A_main_v65 (F := Ideal) a.x a.w a.bias a.tg (ix3 r j 0) = BitVec.ofNat 32 r.val := by
      pointwise [A_main_v65, A_main_v64, A_main_v61, K_main_v63, K_main_v62, K_main_v56, K_main_v55, K_main_v54, K_main_v53,
        K_main_v52, K_main_v51, K_main_v50, K_main_c_9, K_main_c_10]
      refine wrap_eq _ _ ?_
      rw [BitVec.toNat_ofNat, Nat.mod_eq_of_lt (by omega)]
      omega
    rw [this, toInt_ofNat_of_lt (by omega)]
    rfl
  · have : A_main_v65 (F := Ideal) a.x a.w a.bias a.tg (ix3 r j 1) = a.tg (ix2 r (Fin.ofNat 256 (j.val / 2))) := by
      pointwise [A_main_v65, A_main_v64, A_main_v61, A_main_v58, A_main_v60, K_main_v63, K_main_v57, K_main_v59, K_main_c_11, K_main_c_12]
      rw [v20_apply, if_neg (by omega)]
      exact wrap_eq _ _ (by omega)
    rw [this, BitVec.toInt_eq_toNat_of_lt (by omega)]
    unfold Args.label
    show (_ : ℕ) = _ % 56
    rw [Nat.mod_eq_of_lt htg]
    rfl

/-- Whether a state is one of the first two. -/
theorem first_two (j : Fin 513) : IntOp.cmpi .slt (BitVec.ofNat 32 j.val) 2#32 = 1#1 ↔ j.val < 2 := by
  revert j; decide +kernel

/-- The scores after the first frame. -/
theorem v72_apply (ha : a.Ok) (r : Fin 32) (j : Fin 513) :
    A_main_v72 (F := Ideal) a.x a.w a.bias a.tg (ix2 r j) = alpha (a.seq r) 0 j.val := by
  pointwise [A_main_v72, A_main_v69, A_main_v68, K_main_v67, K_main_v26, K_main_v25, K_main_v24, K_main_c_3, K_main_v23, K_main_v22,
    K_main_v21, K_main_c_2, K_main_v70, K_main_v36, K_main_v35, K_main_c_5, K_main_v34, K_main_v33, K_main_v71, K_main_cst_13]
  rw [select_eq, select_eq, ofBits_neg_inf]
  unfold alpha emit
  by_cases h2 : j.val < 2
  · rw [if_pos ((first_two j).2 h2), if_pos h2]
    by_cases hj : j.val % 2 = 0
    · rw [if_pos ((parity j).2 hj), if_pos hj, v49_apply ha]
    · rw [if_neg (fun h' => hj ((parity j).1 h')), if_neg hj, v66_apply ha r j (by omega)]
  · rw [if_neg (fun h' => h2 ((first_two j).1 h')), if_neg h2]

/-- The loop starts from the scores after the first frame. -/
theorem init_holds (ha : a.Ok) : Holds a 0 (Step.init (F := Ideal) a.il a.x a.w a.bias a.tg) where
  f0 := fun k r v => by
    show A_main_v73 (F := Ideal) a.x a.w a.bias a.tg (ix3 k r v) = _
    pointwise [A_main_v73, A_main_v14]
    rw [v13_apply ha]
    congr 3
    exact Nat.add_comm _ _
  f2 := fun r j => v32_apply ha r j
  f3 := fun r j => v20_apply r j
  f5 := rfl
  f7 := fun r j => v72_apply ha r j

end Cert.Ctc.Ref

end
-- ==== Proof.RefValue.lean ====
/- The reference's result: the mean of the sequences' losses, each divided by its target length. -/
module

public import proofs.«01_k».proof.Proof.RefInit
public import proofs.«01_k».proof.Proof.Gen.ReferenceIdeal.StepRun

@[expose] public section

noncomputable section

namespace Cert.Ctc.Ref

open Idealize Idealize.ShloMosaic Cert.ReferenceIdeal Cert.ReferenceIdeal.Gen Cert.ReferenceIdeal.Step

/-- The states the loop passes through. -/
def states (a : Args) : ℕ → State Ideal
  | 0 => Step.init (F := Ideal) a.il a.x a.w a.bias a.tg
  | n + 1 => Step.step n (states a n)

/-- Each of them holds the scores after its frame. -/
theorem states_hold {a : Args} (ha : a.Ok) : ∀ n, n ≤ 2047 → Holds a n (states a n)
  | 0, _ => init_holds ha
  | n + 1, h => (states_hold ha n (by omega)).step ha (by omega)

/-- The losses of the sequences. -/
def losses (a : Args) : FVec Ideal S32 .f32 := fun i => a.loss (i 0)

/-- The mean of the losses, each divided by its target length. -/
def meanLoss (l : FVec Ideal S32 .f32) (tl : IVec S32 32) : FVec Ideal S_ .f32 :=
  Host.divf (Host.reduceAdd (Host.divf l (sitofp .f32 tl)) (constant S_ .f32 0x00000000#32) reducesTo_S32_S_d0 h_S_)
    (constant S_ .f32 0x42000000#32)

/-- A gather of one state's score for each sequence. -/
theorem gather_state {α : Type} (x : S32x513.Idx → α) (idx : IVec S32x2 32) (r : Fin 32) (p : Fin 32) (q : Fin 513)
    (h0 : (idx (ix2 r 0)).toInt.toNat = p.val) (h1 : (idx (ix2 r 1)).toInt.toNat = q.val) :
    Host.gather gather_S32x513_S32x2_S32_n_01_n_n_01_1_11 x idx (ix1 r) = x (ix2 p q) := by
  unfold Host.gather
  refine congrArg x (funext fun b => Fin.ext ?_)
  match b with
  | ⟨0, _⟩ =>
    show GatherDims.start _ _ idx 0 + GatherDims.batchCoord _ _ 0 + GatherDims.offCoord _ _ 0 = p.val
    rw [GatherDims.batchCoord_eq_zero _ _ _ (fun h => List.not_mem_nil h),
      GatherDims.offCoord_eq_zero _ _ _ (fun h => ((GatherDims.mem_sKept _ _).mp h).1 (by decide))]
    unfold GatherDims.start
    rw [dif_pos (by decide)]
    have hsi : GatherDims.siIdx gather_S32x513_S32x2_S32_n_01_n_n_01_1_11 (ix1 r)
        ⟨List.idxOf (0 : Fin 2) [0, 1], by decide⟩ = ix2 r 0 := by
      funext b'; refine Fin.ext ?_
      match b' with
      | ⟨0, _⟩ => rfl
      | ⟨1, _⟩ => rfl
    refine Eq.trans (congrArg (fun z => min (idx z).toInt.toNat 31 + 0 + 0) hsi) ?_
    rw [h0]
    have := p.isLt
    omega
  | ⟨1, _⟩ =>
    show GatherDims.start _ _ idx 1 + GatherDims.batchCoord _ _ 1 + GatherDims.offCoord _ _ 1 = q.val
    rw [GatherDims.batchCoord_eq_zero _ _ _ (fun h => List.not_mem_nil h),
      GatherDims.offCoord_eq_zero _ _ _ (fun h => ((GatherDims.mem_sKept _ _).mp h).1 (by decide))]
    unfold GatherDims.start
    rw [dif_pos (by decide)]
    have hsi : GatherDims.siIdx gather_S32x513_S32x2_S32_n_01_n_n_01_1_11 (ix1 r)
        ⟨List.idxOf (1 : Fin 2) [0, 1], by decide⟩ = ix2 r 1 := by
      funext b'; refine Fin.ext ?_
      match b' with
      | ⟨0, _⟩ => rfl
      | ⟨1, _⟩ => rfl
    refine Eq.trans (congrArg (fun z => min (idx z).toInt.toNat 512 + 0 + 0) hsi) ?_
    rw [h1]
    have := q.isLt
    omega

/-- The negated two-argument logarithm of a sum of exponentials, for all sequences. -/
theorem neg_logaddexp (x y : FVec Ideal S32 .f32) (l : FVec Ideal S32 .f32) (p q : Fin 32 → EReal) (hp : ∀ r, p r ≠ ⊤)
    (hq : ∀ r, q r ≠ ⊤) (hl : ∀ r : Fin 32, l (ix1 r) = -lse (p r) (q r)) (hx : ∀ r : Fin 32, x (ix1 r) = p r)
    (hy : ∀ r : Fin 32, y (ix1 r) = q r) :
    Host.negf (select (cmpf .une (subf x y) (subf x y)) (addf x y)
      (addf (maximumf x y) (Host.log1p (Host.exp (Host.negf (Host.absf (subf x y))))))) = l := by
  funext i
  obtain ⟨r, rfl⟩ : ∃ r : Fin 32, i = ix1 r := ⟨i 0, by funext k; match k with | ⟨0, _⟩ => rfl⟩
  rw [hl, ← lse_log1p (hp r) (hq r)]
  pointwise
  rw [hx, hy]
  refine congrArg (fun z => -z) ?_
  exact if_neg (fun h => h rfl)

/-- The reference's last operations, of the losses. -/
theorem result_eq {a : Args} (ha : a.Ok) {s : State Ideal} (h : Holds a 2047 s) :
    R_main_v125 s a.tl = meanLoss (losses a) a.tl := by
  unfold R_main_v125 meanLoss
  rw [neg_logaddexp _ _ (losses a) (fun r => alpha (a.seq r) 2047 512) (fun r => alpha (a.seq r) 2047 511)
    (fun r => alpha_ne_top _ _ _) (fun r => alpha_ne_top _ _ _) (fun r => rfl)]
  · intro r
    rw [gather_state _ _ r r ⟨512, by omega⟩, h.f7]
    · pointwise
      rw [wrap_eq _ _ (by rw [BitVec.toNat_ofNat, Nat.mod_eq_of_lt (by omega)]; omega), toInt_ofNat_of_lt (by omega)]
      rfl
    · pointwise
      rw [ha.tl]
      rfl
  · intro r
    rw [gather_state _ _ r r ⟨511, by omega⟩, h.f7]
    · pointwise
      rw [wrap_eq _ _ (by rw [BitVec.toNat_ofNat, Nat.mod_eq_of_lt (by omega)]; omega), toInt_ofNat_of_lt (by omega)]
      rfl
    · pointwise
      rw [ha.tl]
      rfl

/-- The reference's arguments. -/
def args (m : (ℓ : Loc nD τ sig) → Buf (Elt Ideal) ℓ) (c : Dev nD) : Args where
  x := m ((c.tc : Thread nD τ).loc main_arg0)
  w := m ((c.tc : Thread nD τ).loc main_arg1)
  bias := m ((c.tc : Thread nD τ).loc main_arg2)
  tg := m ((c.tc : Thread nD τ).loc main_arg3)
  il := m ((c.tc : Thread nD τ).loc main_arg4)
  tl := m ((c.tc : Thread nD τ).loc main_arg5)

/-- The reference runs, its result is the mean loss, and its arguments are unchanged. -/
theorem run (m : (ℓ : Loc nD τ sig) → Buf (Elt Ideal) ℓ) (ρ : Dev nD → PrngReg) (ha : ∀ c, (args m c).Ok) :
    θ_run (defs (F := Ideal)) (onTc (τ := τ) (main (F := Ideal))) ⟨m, fun _ => 0, ρ⟩ fun r => ∀ c : Dev nD,
      r.2.mem ((c.tc : Thread nD τ).loc main_v125) = meanLoss (losses (args m c)) (args m c).tl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans (result_eq (ha c) (states_hold (ha c) 2047 (le_refl _))), (h c).2⟩)
    (StepRun.run_iter m ρ (fun c => states (args m c)) (fun _ => rfl) (fun _ _ => rfl))

end Cert.Ctc.Ref

end
-- ==== Proof.KernelStep.lean ====
/- One frame of the kernel's recursion, read at a sequence's row. -/
module

public import proofs.«01_k».proof.Proof.Inputs
public import proofs.«01_k».proof.Proof.Gen.KernelIdeal.Loops

@[expose] public section

noncomputable section

namespace Cert.Ctc.Ker

open Idealize.ShloMosaic Cert.KernelIdeal Cert.KernelIdeal.Gen

variable {q : Seq} {c : Acc} {r : Fin 32} {t : ℕ}

/-- A carried triple holds, in row `r`, what the recursion carries. -/
structure Row (c : Acc) (r : Fin 32) (ae ao : FVec Ideal S32x256 .f32) (lam : FVec Ideal S32x128 .f32) : Prop where
  ae : ∀ s : Fin 256, ae (ix2 r s) = c.ae s.val
  ao : ∀ s : Fin 256, ao (ix2 r s) = c.ao s.val
  lam : lam (ix2 r 127) = c.lam

/-- The constant the kernel uses for minus infinity. -/
theorem mask_eq : Named.named (F := Ideal) (φ := .f32) κ "mask" 0xF149F2CA#32 = (⊥ : EReal) :=
  IdealRules.named_const.ideal_named_scalar _ _ _ _ rfl

/-- Row `r` of a block of emissions, each with one added. -/
def Emits (q : Seq) (t : ℕ) (r : Fin 32) (e : FVec Ideal S1x32x256 .f32) : Prop :=
  ∀ s : Fin 256, e (ix3 0 r s) = (q.e t s.val : EReal) + ((1 : ℝ) : EReal)

open Classical in
/-- Row `r` of the array that closes the places where a star may not be hopped over. -/
def Skips (q : Seq) (r : Fin 32) (sb : FVec Ideal S32x256 .f32) : Prop :=
  ∀ s : Fin 256, sb (ix2 r s) = if q.skip s.val then 0 else ⊥

/-- The odd states moved one place. -/
theorem pay4_apply {ao : FVec Ideal S32x256 .f32} {f : ℕ → EReal} (h : ∀ s : Fin 256, ao (ix2 r s) = f s.val) (s : Fin 256) :
    k0_pay4 (F := Ideal) (k0_pay64 (F := Ideal)) ao (ix2 r s) = prev 1 f s.val := by
  pointwise [k0_pay4, k0_pay64]
  unfold prev
  by_cases hs : s.val < 1
  · rw [dif_pos hs, if_pos hs, mask_eq]
  · rw [dif_neg hs, if_neg hs]
    exact h ⟨s.val - 1, by omega⟩

/-- The odd states moved one place, as the trip's first two frames spell it. -/
theorem pay10_apply {sb : FVec Ideal S32x256 .f32} {ae ao : FVec Ideal S32x256 .f32} {e : FVec Ideal S1x32x256 .f32} {f : ℕ → EReal}
    (h : ∀ s : Fin 256, k0_pay5 (F := Ideal) sb (k0_pay64 (F := Ideal)) ae ao e (ix2 r s) = f s.val) (s : Fin 256) :
    k0_pay10 (F := Ideal) (k0_pay64 (F := Ideal)) (k0_pay9 (F := Ideal) sb (k0_pay64 (F := Ideal)) ae ao e) (ix2 r s) = prev 1 f s.val := by
  pointwise [k0_pay10, k0_pay9, k0_pay64]
  unfold prev
  by_cases hs : s.val < 1
  · rw [dif_pos hs, if_pos hs, mask_eq]
  · rw [dif_neg hs, if_neg hs]
    exact h ⟨s.val - 1, by omega⟩

/-- The odd states moved one place, as the third frame spells it. -/
theorem pay14_apply {sb ao ae e1 : FVec Ideal S32x256 .f32} {w : FVec Ideal S32x255 .f32} {f : ℕ → EReal}
    (h : ∀ s : Fin 256, k0_pay11 (F := Ideal) sb (k0_pay64 (F := Ideal)) ao ae e1 w (ix2 r s) = f s.val) (s : Fin 256) :
    k0_pay14 (F := Ideal) sb (k0_pay64 (F := Ideal)) ao ae e1 w (ix2 r s) = prev 1 f s.val := by
  pointwise [k0_pay14, k0_pay64]
  unfold prev
  by_cases hs : s.val < 1
  · rw [dif_pos hs, if_pos hs, mask_eq]
  · rw [dif_neg hs, if_neg hs]
    exact h ⟨s.val - 1, by omega⟩

/-- The odd states moved one place, as the fourth frame spells it. -/
theorem pay70_apply {ao : FVec Ideal S32x256 .f32} {f : ℕ → EReal} (h : ∀ s : Fin 256, ao (ix2 r s) = f s.val) (s : Fin 256) :
    k0_pay70 (F := Ideal) ao (ix2 r s) = prev 1 f s.val := by
  pointwise [k0_pay70, k0_pay64]
  unfold prev
  by_cases hs : s.val < 1
  · rw [dif_pos hs, if_pos hs, mask_eq]
  · rw [dif_neg hs, if_neg hs]
    exact h ⟨s.val - 1, by omega⟩

open Classical in
/-- The odd states' update from its three scores. -/
theorem odd_step (q : Seq) (t : ℕ) (s : ℕ) {x y b e k : EReal} (hx : x = (acc q t).ao s) (hy : y = (acc q t).ae s)
    (hb : b = prev 1 (acc q t).ao s) (hk : k = if q.skip s then 0 else ⊥) (he : e = (q.e t s : EReal) + ((1 : ℝ) : EReal)) :
    max (max x y) (b + k) + Ideal.log (Ideal.exp (x - max (max x y) (b + k)) + Ideal.exp (y - max (max x y) (b + k))
      + Ideal.exp (b + k - max (max x y) (b + k))) + e = (acc q (t + 1)).ao s := by
  obtain ⟨hae, hao, -⟩ := acc_ne_top q t
  have hz : b + k ≠ ⊤ := by
    rw [hb, hk]
    split
    · rw [add_zero]; exact prev_ne_top hao s
    · rw [EReal.add_bot]; exact bot_ne_top
  rw [lse3_shift (hx ▸ hao s) (hy ▸ hae s) hz, hx, hy, hb, hk, he]
  rfl

/-- The even states' update from its two scores. -/
theorem even_step (q : Seq) (t : ℕ) (s : ℕ) {x b : EReal} (hx : x = (acc q t).ae s) (hb : b = prev 1 (acc q t).ao s) :
    max x b + Ideal.log (Ideal.exp (x - max x b) + Ideal.exp (b - max x b)) = (acc q (t + 1)).ae s := by
  obtain ⟨hae, hao, -⟩ := acc_ne_top q t
  rw [lse_shift (hx ▸ hae s) (hb ▸ prev_ne_top hao s), hx, hb]
  rfl

/-- The last even state's update. -/
theorem last_step (q : Seq) (t : ℕ) {x b : EReal} (hx : x = (acc q t).lam) (hb : b = (acc q t).ao 255) :
    max x b + Ideal.log (Ideal.exp (x - max x b) + Ideal.exp (b - max x b)) = (acc q (t + 1)).lam := by
  obtain ⟨-, hao, hl⟩ := acc_ne_top q t
  rw [lse_shift (hx ▸ hl) (hb ▸ hao 255), hx, hb]
  rfl

/-- The trip's four frames: what it yields holds the recursion four frames on. -/
theorem trip_row {v10 : Vec Ideal S32x256 .i32} {v12 : IVec S32x256 32} {ae ao : FVec Ideal S32x256 .f32} {lam : FVec Ideal S32x128 .f32}
    {e0 e1 e2 e3 : FVec Ideal S1x32x256 .f32} (h : Row (acc q t) r ae ao lam) (hk : Skips q r (k0_pay63 (F := Ideal) v10 v12))
    (h0 : Emits q t r e0) (h1 : Emits q (t + 1) r e1) (h2 : Emits q (t + 2) r e2) (h3 : Emits q (t + 3) r e3)
    (sb : FVec Ideal S32x256 .f32) (hsb : sb = k0_pay63 (F := Ideal) v10 v12)
    (ng : FVec Ideal S32x1 .f32) (hng : ng = k0_pay64 (F := Ideal))
    (ao1 ae1 em1 : FVec Ideal S32x256 .f32) (lam2 lam3 : FVec Ideal S32x128 .f32) (w : FVec Ideal S32x255 .f32) (ao3 m3 x3 y3 : FVec Ideal S32x256 .f32)
    (hao1 : ao1 = k0_pay5 sb ng ae ao e0) (hae1 : ae1 = k0_pay6 ng ae ao) (hem1 : em1 = k0_pay7 e1)
    (hlam2 : lam2 = k0_pay8 sb ng ae ao lam e0) (hw : w = k0_pay9 sb ng ae ao e0)
    (hlam3 : lam3 = k0_pay13 sb ng ao1 ae1 em1 lam2 w) (hao3 : ao3 = k0_pay15 sb ng ao1 ae1 em1 w e2)
    (hm3 : m3 = k0_pay16 sb ng ao1 ae1 em1 w) (hx3 : x3 = k0_pay17 sb ng ao1 ae1 em1 w) (hy3 : y3 = k0_pay18 sb ng ao1 ae1 em1 w) :
    Row (acc q (t + 4)) r (k0_pay72 ao3 m3 x3 y3) (k0_pay71 v10 v12 ao3 m3 x3 y3 e3) (k0_pay69 lam3 ao3) := by
  rw [← hsb] at hk
  subst hng
  have o1 : ∀ s : Fin 256, ao1 (ix2 r s) = (acc q (t + 1)).ao s.val := by
    intro s
    rw [hao1]
    pointwise [k0_pay5]
    exact odd_step q t s (h.ao s) (h.ae s) (pay4_apply h.ao s) (hk s) (h0 s)
  have v1 : ∀ s : Fin 256, ae1 (ix2 r s) = (acc q (t + 1)).ae s.val := by
    intro s
    rw [hae1]
    pointwise [k0_pay6]
    exact even_step q t s (h.ae s) (pay4_apply h.ao s)
  have b1 : ∀ s : Fin 256, k0_pay10 (F := Ideal) (k0_pay64 (F := Ideal)) w (ix2 r s) = prev 1 (acc q (t + 1)).ao s.val := by
    intro s
    rw [hw]
    exact pay10_apply (fun s => by rw [← o1 s, hao1]) s
  have o2 : ∀ s : Fin 256, k0_pay11 (F := Ideal) sb (k0_pay64 (F := Ideal)) ao1 ae1 em1 w (ix2 r s) = (acc q (t + 2)).ao s.val := by
    intro s
    pointwise [k0_pay11]
    refine odd_step q (t + 1) s (o1 s) (v1 s) (b1 s) (hk s) ?_
    rw [hem1]
    pointwise [k0_pay7]
    exact h1 s
  have v2 : ∀ s : Fin 256, k0_pay12 (F := Ideal) (k0_pay64 (F := Ideal)) ae1 w (ix2 r s) = (acc q (t + 2)).ae s.val := by
    intro s
    pointwise [k0_pay12]
    exact even_step q (t + 1) s (v1 s) (b1 s)
  have l2 : lam2 (ix2 r 127) = (acc q (t + 2)).lam := by
    rw [hlam2]
    pointwise [k0_pay8]
    refine last_step q (t + 1) (last_step q t h.lam (h.ao 255)) ?_
    rw [← hao1]
    exact o1 255
  have l3 : lam3 (ix2 r 127) = (acc q (t + 3)).lam := by
    rw [hlam3]
    pointwise [k0_pay13]
    exact last_step q (t + 2) l2 (o2 255)
  have b2 := fun s => pay14_apply o2 s
  have o3 : ∀ s : Fin 256, ao3 (ix2 r s) = (acc q (t + 3)).ao s.val := by
    intro s
    rw [hao3]
    pointwise [k0_pay15]
    exact odd_step q (t + 2) s (o2 s) (v2 s) (b2 s) (hk s) (h2 s)
  have v3 : ∀ s : Fin 256, k0_pay68 (F := Ideal) m3 x3 y3 (ix2 r s) = (acc q (t + 3)).ae s.val := by
    intro s
    rw [hm3, hx3, hy3]
    pointwise [k0_pay68, k0_pay16, k0_pay17, k0_pay18]
    exact even_step q (t + 2) s (v2 s) (b2 s)
  have b3 := fun s => pay70_apply o3 s
  refine ⟨fun s => ?_, fun s => ?_, ?_⟩
  · pointwise [k0_pay72]
    exact even_step q (t + 3) s (v3 s) (b3 s)
  · pointwise [k0_pay71]
    rw [← hsb]
    exact odd_step q (t + 3) s (o3 s) (v3 s) (b3 s) (hk s) (h3 s)
  · pointwise [k0_pay69]
    exact last_step q (t + 3) l3 (o3 255)

end Cert.Ctc.Ker

end
-- ==== Proof.KernelTrip.lean ====
/- One trip of the kernel's loop, and the loop: what it carries holds the recursion, four frames a trip. -/
module

public import proofs.«01_k».proof.Proof.KernelStep
public import Idealize.ShloMosaic.Lib.Pipeline.ValueKit.Tiles

@[expose] public section

set_option maxRecDepth 8192

noncomputable section

namespace Cert.Ctc.Ker

open Idealize.ShloMosaic Idealize.ShloMosaic.TcCoe Cert.KernelIdeal Cert.KernelIdeal.Gen

variable {q : Seq} {c : Acc} {r : Fin 32} {t : ℕ}

variable (𝒱 : Variants) (d : Dev nD) (bd : Option 𝒱.V) (i : grid0.Coords)
  (arg1 : Memref sig .tc .vmem S32x256x1024 .bf16) (harg1 : arg1.IsWhole) (arg2 : Memref sig .tc .vmem S1024x128 .bf16) (harg2 : arg2.IsWhole)
  (arg3 : Memref sig .tc .vmem S1x128 .f32) (harg3 : arg3.IsWhole) (arg4 : Memref sig .tc .vmem S32x256 .i32) (harg4 : arg4.IsWhole)
  (arg5 : Memref sig .tc .vmem S32x256 .i32) (harg5 : arg5.IsWhole) (arg6 : Memref sig .tc .vmem S32x128 .f32) (harg6 : arg6.IsWhole)
  (arg7 : Memref sig .tc .vmem S256x32x256 .f32) (harg7 : arg7.IsWhole) (arg8 : Memref sig .tc .vmem S32x256 .f32) (harg8 : arg8.IsWhole)
  (arg9 : Memref sig .tc .vmem S32x256 .f32) (harg9 : arg9.IsWhole) (arg10 : Memref sig .tc .vmem S32x128 .f32) (harg10 : arg10.IsWhole)
  (arg0 : BitVec 32) (v0 : IVec S1x256 32) (v10 : Vec Ideal S32x256 .i32) (v12 : IVec S32x256 32) (v13 : IVec S128x256 32)
  (v30 : FVec Ideal S8192x128 .f32) (v399 : FVec Ideal S256x256 .f32) (X : BufTy.Contents (Elt Ideal) arg7.view.ty)

/-- Where a trip's four loads start. -/
theorem off_eq (k : Fin k0_t1_loop.trips) (j : Fin 4) : k0_off1 k (BitVec.ofNat 32 j.val) 0 = 4 * k.val + j.val := by
  revert k j; decide +kernel

theorem trips_eq : k0_t1_loop.trips = 64 := by decide +kernel

/-- A trip's load, at a row. -/
theorem load_emits (k : Fin k0_t1_loop.trips) (j : Fin 4) (inb)
    (hX : ∀ (j : Fin 256) (s : Fin 256), arg7.view.read (Elt Ideal) X (ix3 j r s) = (q.e (t + j.val) s.val : EReal) + ((1 : ℝ) : EReal)) :
    Emits q (t + 4 * k.val + j.val) r (View.readAt (Elt Ideal) arg7.view
      (Rect.unit (s := S256x32x256) (k0_off1 k (BitVec.ofNat 32 j.val)) ![1, 32, 256] inb).toLoadRect X) := by
  intro s
  have hk : k.val < 64 := lt_of_lt_of_eq k.isLt trips_eq
  have hj := j.isLt
  refine Eq.trans (View.ld_unit_apply_of (arg7.view.read (Elt Ideal) X) _ _ inb (ix3 0 r s) (ix3 ⟨4 * k.val + j.val, by omega⟩ r s) ?_) ?_
  · intro a
    match a with
    | ⟨0, _⟩ => show 4 * k.val + j.val = k0_off1 k (BitVec.ofNat 32 j.val) 0 + 0; rw [off_eq, Nat.add_zero]
    | ⟨1, _⟩ => exact (Nat.zero_add _).symm
    | ⟨2, _⟩ => exact (Nat.zero_add _).symm
  · rw [hX]
    show (q.e (t + (4 * k.val + j.val)) s.val : EReal) + _ = _
    rw [Nat.add_assoc]

/-- One trip. -/
theorem tripR_row (k : Fin k0_t1_loop.trips) (p : Vec Ideal S32x256 .f32 × Vec Ideal S32x256 .f32 × Vec Ideal S32x128 .f32)
    (h : Row (acc q (t + 4 * k.val)) r p.1 p.2.1 p.2.2) (hk : Skips q r (k0_pay63 (F := Ideal) v10 v12))
    (hX : ∀ (j : Fin 256) (s : Fin 256), arg7.view.read (Elt Ideal) X (ix3 j r s) = (q.e (t + j.val) s.val : EReal) + ((1 : ℝ) : EReal)) :
    Row (acc q (t + 4 * (k.val + 1))) r
      (tripR_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X k p).1
      (tripR_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X k p).2.1
      (tripR_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X k p).2.2 := by
  unfold tripR_k0_t1 trip_k0_t1
  dsimp only
  exact trip_row h hk (load_emits arg7 X k 0 _ hX) (load_emits arg7 X k 1 _ hX) (load_emits arg7 X k 2 _ hX) (load_emits arg7 X k 3 _ hX)
    _ rfl _ rfl _ _ _ _ _ _ _ _ _ _ rfl rfl rfl rfl rfl rfl rfl rfl rfl rfl

/-- The loop: what it yields holds the recursion 256 frames on. -/
theorem loop_row (init : Vec Ideal S32x256 .f32 × Vec Ideal S32x256 .f32 × Vec Ideal S32x128 .f32)
    (h : Row (acc q t) r init.1 init.2.1 init.2.2) (hk : Skips q r (k0_pay63 (F := Ideal) v10 v12))
    (hX : ∀ (j : Fin 256) (s : Fin 256), arg7.view.read (Elt Ideal) X (ix3 j r s) = (q.e (t + j.val) s.val : EReal) + ((1 : ℝ) : EReal)) :
    ∀ n, n ≤ k0_t1_loop.trips → Row (acc q (t + 4 * n)) r
      (st_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X init n).1
      (st_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X init n).2.1
      (st_k0_t1 (F := Ideal) 𝒱 d bd i arg1 harg1 arg2 harg2 arg3 harg3 arg4 harg4 arg5 harg5 arg6 harg6 arg7 harg7 arg8 harg8 arg9 harg9 arg10 harg10 arg0 v0 v10 v12 v13 v30 v399 X init n).2.2
  | 0, _ => h
  | n + 1, hn => by
    have e := st_k0_t1_succ (F := Ideal) 𝒱 d bd i arg1 harg1 arg2 harg2 arg3 harg3 arg4 harg4 arg5 harg5 arg6 harg6 arg7 harg7 arg8 harg8 arg9 harg9 arg10 harg10 arg0 v0 v10 v12 v13 v30 v399 X init ⟨n, hn⟩
    rw [e]
    exact tripR_row 𝒱 d bd i arg1 harg1 arg2 harg2 arg3 harg3 arg4 harg4 arg5 harg5 arg6 harg6 arg7 harg7 arg8 harg8 arg9 harg9 arg10 harg10 arg0 v0 v10 v12 v13 v30 v399 X ⟨n, hn⟩ _
      (loop_row init h hk hX n (Nat.le_of_succ_le hn)) hk hX

end Cert.Ctc.Ker

end
-- ==== Proof.KernelEmit.lean ====
/- What the kernel's 32 row stores leave in its table of emissions, and the rows of log-probabilities they read. -/
module

public import proofs.«01_k».proof.Proof.KernelTrip
public import Idealize.ShloMosaic.Lib.Pipeline.ValueKit
public import Idealize.ShloMosaic.Lib.Pointwise

@[expose] public section

set_option maxRecDepth 16384

noncomputable section

namespace Cert.Ctc.Ker

open Idealize.ShloMosaic Idealize.ShloMosaic.TcCoe Cert.KernelIdeal Cert.KernelIdeal.Gen

/-- The lane numbers, down the 128 rows. -/
abbrev ei : IVec S128x256 32 := iota .tc S128x256 32 [0] iota_S128x256_d0_w32

/-- The 32 row stores into the table of emissions, last first. -/
def ePieces (v1 : Vec Ideal S1024x128 .bf16) (v6 : Vec Ideal S1x128 .f32) (v10 : Vec Ideal S32x256 .i32) (v14 : Vec Ideal S32x256x1024 .bf16) :
    List (View.Piece (Elt Ideal) S256x32x256 .f32) :=
  [⟨Rect.unit ![0, 31, 0] S256x1x256.size inb_S256x32x256_S256x1x256_0_31_0, k0_pay62 v10 ei (k0_pay20 v1 v6 v14)⟩,
    ⟨Rect.unit ![0, 30, 0] S256x1x256.size inb_S256x32x256_S256x1x256_0_30_0, k0_pay61 (k0_pay60 v10 ei (k0_pay20 v1 v6 v14))⟩,
    ⟨Rect.unit ![0, 29, 0] S256x1x256.size inb_S256x32x256_S256x1x256_0_29_0, k0_pay59 v10 ei (k0_pay20 v1 v6 v14)⟩,
    ⟨Rect.unit ![0, 28, 0] S256x1x256.size inb_S256x32x256_S256x1x256_0_28_0, k0_pay58 v10 ei (k0_pay20 v1 v6 v14)⟩,
    ⟨Rect.unit ![0, 27, 0] S256x1x256.size inb_S256x32x256_S256x1x256_0_27_0, k0_pay57 (k0_pay55 v10 ei) (k0_pay56 (k0_pay20 v1 v6 v14))⟩,
    ⟨Rect.unit ![0, 26, 0] S256x1x256.size inb_S256x32x256_S256x1x256_0_26_0, k0_pay54 v10 ei (k0_pay20 v1 v6 v14)⟩,
    ⟨Rect.unit ![0, 25, 0] S256x1x256.size inb_S256x32x256_S256x1x256_0_25_0, k0_pay53 v10 ei (k0_pay20 v1 v6 v14)⟩,
    ⟨Rect.unit ![0, 24, 0] S256x1x256.size inb_S256x32x256_S256x1x256_0_24_0, k0_pay52 v10 ei (k0_pay20 v1 v6 v14)⟩,
    ⟨Rect.unit ![0, 23, 0] S256x1x256.size inb_S256x32x256_S256x1x256_0_23_0, k0_pay51 v10 ei (k0_pay20 v1 v6 v14)⟩,
    ⟨Rect.unit ![0, 22, 0] S256x1x256.size inb_S256x32x256_S256x1x256_0_22_0, k0_pay50 v10 ei (k0_pay20 v1 v6 v14)⟩,
    ⟨Rect.unit ![0, 21, 0] S256x1x256.size inb_S256x32x256_S256x1x256_0_21_0, k0_pay49 v10 ei (k0_pay20 v1 v6 v14)⟩,
    ⟨Rect.unit ![0, 20, 0] S256x1x256.size inb_S256x32x256_S256x1x256_0_20_0, k0_pay48 (k0_pay47 v10 ei (k0_pay20 v1 v6 v14))⟩,
    ⟨Rect.unit ![0, 19, 0] S256x1x256.size inb_S256x32x256_S256x1x256_0_19_0, k0_pay46 v10 ei (k0_pay20 v1 v6 v14)⟩,
    ⟨Rect.unit ![0, 18, 0] S256x1x256.size inb_S256x32x256_S256x1x256_0_18_0, k0_pay45 v10 ei (k0_pay20 v1 v6 v14)⟩,
    ⟨Rect.unit ![0, 17, 0] S256x1x256.size inb_S256x32x256_S256x1x256_0_17_0, k0_pay44 (k0_pay42 v10 ei) (k0_pay43 (k0_pay20 v1 v6 v14))⟩,
    ⟨Rect.unit ![0, 16, 0] S256x1x256.size inb_S256x32x256_S256x1x256_0_16_0, k0_pay41 v10 ei (k0_pay20 v1 v6 v14)⟩,
    ⟨Rect.unit ![0, 15, 0] S256x1x256.size inb_S256x32x256_S256x1x256_0_15_0, k0_pay40 v10 ei (k0_pay20 v1 v6 v14)⟩,
    ⟨Rect.unit ![0, 14, 0] S256x1x256.size inb_S256x32x256_S256x1x256_0_14_0, k0_pay39 v10 ei (k0_pay20 v1 v6 v14)⟩,
    ⟨Rect.unit ![0, 13, 0] S256x1x256.size inb_S256x32x256_S256x1x256_0_13_0, k0_pay38 v10 ei (k0_pay20 v1 v6 v14)⟩,
    ⟨Rect.unit ![0, 12, 0] S256x1x256.size inb_S256x32x256_S256x1x256_0_12_0, k0_pay37 v10 ei (k0_pay20 v1 v6 v14)⟩,
    ⟨Rect.unit ![0, 11, 0] S256x1x256.size inb_S256x32x256_S256x1x256_0_11_0, k0_pay36 v10 ei (k0_pay20 v1 v6 v14)⟩,
    ⟨Rect.unit ![0, 10, 0] S256x1x256.size inb_S256x32x256_S256x1x256_0_10_0, k0_pay35 (k0_pay34 v10 ei (k0_pay20 v1 v6 v14))⟩,
    ⟨Rect.unit ![0, 9, 0] S256x1x256.size inb_S256x32x256_S256x1x256_0_9_0, k0_pay33 v10 ei (k0_pay20 v1 v6 v14)⟩,
    ⟨Rect.unit ![0, 8, 0] S256x1x256.size inb_S256x32x256_S256x1x256_0_8_0, k0_pay32 v10 ei (k0_pay20 v1 v6 v14)⟩,
    ⟨Rect.unit ![0, 7, 0] S256x1x256.size inb_S256x32x256_S256x1x256_0_7_0, k0_pay31 (k0_pay29 v10 ei) (k0_pay30 (k0_pay20 v1 v6 v14))⟩,
    ⟨Rect.unit ![0, 6, 0] S256x1x256.size inb_S256x32x256_S256x1x256_0_6_0, k0_pay28 v10 ei (k0_pay20 v1 v6 v14)⟩,
    ⟨Rect.unit ![0, 5, 0] S256x1x256.size inb_S256x32x256_S256x1x256_0_5_0, k0_pay27 v10 ei (k0_pay20 v1 v6 v14)⟩,
    ⟨Rect.unit ![0, 4, 0] S256x1x256.size inb_S256x32x256_S256x1x256_0_4_0, k0_pay26 v10 ei (k0_pay20 v1 v6 v14)⟩,
    ⟨Rect.unit ![0, 3, 0] S256x1x256.size inb_S256x32x256_S256x1x256_0_3_0, k0_pay25 v10 ei (k0_pay20 v1 v6 v14)⟩,
    ⟨Rect.unit ![0, 2, 0] S256x1x256.size inb_S256x32x256_S256x1x256_0_2_0, k0_pay24 v10 ei (k0_pay20 v1 v6 v14)⟩,
    ⟨Rect.unit ![0, 1, 0] S256x1x256.size inb_S256x32x256_S256x1x256_0_1_0, k0_pay23 v10 ei (k0_pay20 v1 v6 v14)⟩,
    ⟨Rect.unit ![0, 0, 0] S256x1x256.size inb_S256x32x256_S256x1x256_0_0_0, k0_pay22 (k0_pay21 v1 v6 v10 v14)⟩]

/-- A batch's product at a frame and a label place: the row of log-probabilities against the label's lane. -/
def emitAt (v30 : FVec Ideal S8192x128 .f32) (v10 : Vec Ideal S32x256 .i32) (j : Fin 256) (r : Fin 32) (s : Fin 256) : EReal :=
  (∑ v : Fin 128, v30 (ix2 ⟨256 * r.val + j.val, by omega⟩ v) * (if v10 (ix2 r s) = BitVec.ofNat 32 v.val then ((1 : ℝ) : EReal) else 0)) + ((1 : ℝ) : EReal)

theorem one_hot (a b : BitVec 32) : FloatOps.sitofp (F := Ideal) .f32 (BitVec.setWidth 32 (IntOp.cmpi CmpIPredicate.eq a b))
    = if a = b then ((1 : ℝ) : EReal) else 0 := by
  show (((BitVec.setWidth 32 (BitVec.ofBool (decide (a = b)))).toInt : ℝ) : EReal) = _
  by_cases h : a = b
  · rw [if_pos h, decide_eq_true h, show (BitVec.setWidth 32 (BitVec.ofBool true)).toInt = 1 from by decide, Int.cast_one]
  · rw [if_neg h, decide_eq_false h]
    norm_num

theorem emit_piece (v30 : FVec Ideal S8192x128 .f32) (v10 : Vec Ideal S32x256 .i32) (row : Fin 8192) (b' : Fin 32) (s : Fin 256)
    (y : S256x32x256.Idx) (hr : row.val = 256 * (y 1 : ℕ) + (y 0 : ℕ)) (hb : b'.val = (y 1 : ℕ)) (hs : s.val = (y 2 : ℕ)) :
    (∑ v : Fin 128, v30 (ix2 row v) * FloatOps.sitofp (F := Ideal) .f32 (BitVec.setWidth 32 (IntOp.cmpi CmpIPredicate.eq (v10 (ix2 b' s)) (BitVec.ofNat 32 ↑v))))
      - Ideal.ofBits .f32 0xBF800000#32 = emitAt v30 v10 (y 0) (y 1) (y 2) := by
  obtain rfl : b' = y 1 := Fin.ext hb
  obtain rfl : s = y 2 := Fin.ext hs
  have hw : row = ⟨256 * (y 1 : ℕ) + (y 0 : ℕ), hr ▸ row.isLt⟩ := Fin.ext hr
  unfold emitAt
  rw [ofBits_neg_one]
  refine congrArg₂ (· + ·) (Finset.sum_congr rfl fun v _ => congrArg₂ (· * ·) (congrArg (fun w => v30 (ix2 w v)) hw) (one_hot _ _)) ?_
  rw [← EReal.coe_neg, neg_neg]

theorem emit_at (v1 : Vec Ideal S1024x128 .bf16) (v6 : Vec Ideal S1x128 .f32) (v10 : Vec Ideal S32x256 .i32) (v14 : Vec Ideal S32x256x1024 .bf16)
    (y : S256x32x256.Idx) : View.canon (ePieces v1 v6 v10 v14) y = emitAt (k0_pay20 v1 v6 v14) v10 (y 0) (y 1) (y 2) := by
  unfold ePieces
  canon_tiles x h
  all_goals (open_payloads; pointwise)
  all_goals exact emit_piece _ _ _ _ _ y (by simp <;> omega) (by simp <;> omega) h2.symm

end Cert.Ctc.Ker
-- ==== Proof.KernelLogp.lean ====
/- The kernel's rows of log-probabilities, at the lanes of the 56 classes and at the 72 lanes past them. -/
module

public import proofs.«01_k».proof.Proof.KernelTrip
public import Idealize.ShloMosaic.Lib.Pipeline.ValueKit
public import Idealize.ShloMosaic.Lib.Pointwise

@[expose] public section

set_option maxRecDepth 16384

noncomputable section

namespace Cert.Ctc.Ker

open Idealize.ShloMosaic Idealize.ShloMosaic.TcCoe Cert.KernelIdeal Cert.KernelIdeal.Gen

/-- The largest of 128 lanes, of which the first 56 hold real numbers and the others `⊥`, is a real number. -/
theorem lanes_max (z : Fin 56 → ℝ) (f : Fin 128 → EReal) (hf : ∀ v : Fin 128, f v = if h : v.val < 56 then ((z ⟨v.val, h⟩ : ℝ) : EReal) else ⊥) :
    ∃ m : ℝ, Finset.univ.fold max (⊥ : EReal) f = m := by
  have h1 : Finset.univ.fold max (⊥ : EReal) f < ⊤ := by
    rw [Finset.fold_max_lt]
    refine ⟨bot_lt_top, fun v _ => ?_⟩
    rw [hf]
    split
    · exact EReal.coe_lt_top _
    · exact bot_lt_top
  have h2 : ⊥ < Finset.univ.fold max (⊥ : EReal) f := by
    rw [Finset.lt_fold_max]
    refine Or.inr ⟨0, Finset.mem_univ _, ?_⟩
    rw [hf, dif_pos (by decide)]
    exact EReal.bot_lt_coe _
  exact ⟨_, (EReal.coe_toReal h1.ne h2.ne').symm⟩

/-- The lanes past the 56 classes add nothing to the sum of exponentials. -/
theorem lanes_sum (z : Fin 56 → ℝ) (f : Fin 128 → EReal) (m : ℝ) (hf : ∀ v : Fin 128, f v = if h : v.val < 56 then ((z ⟨v.val, h⟩ : ℝ) : EReal) else ⊥) :
    ∑ v, Ideal.exp (f v - m) = ∑ v : Fin 56, Ideal.exp ((z v : EReal) - m) := by
  have e := Fin.sum_univ_add (a := 56) (b := 72) (fun v : Fin (56 + 72) => Ideal.exp (f v - m))
  refine e.trans ?_
  rw [Finset.sum_eq_zero (s := (Finset.univ : Finset (Fin 72))), add_zero]
  · refine Finset.sum_congr rfl fun v _ => ?_
    rw [hf, dif_pos (show (Fin.castAdd 72 v).val < 56 from v.isLt)]
    rfl
  · intro v _
    rw [hf, dif_neg (by show ¬ 56 + v.val < 56; omega), EReal.bot_sub]
    rfl

/-- A row of the product with the bias, masked past the 56 classes. -/
def lane (v1 : Vec Ideal S1024x128 .bf16) (v6 : Vec Ideal S1x128 .f32) (v14 : Vec Ideal S32x256x1024 .bf16) (row : Fin 8192) (v : Fin 128) : EReal :=
  ∑ d : Fin 1024, v14 (ix3 ⟨row.val / 256, by omega⟩ ⟨row.val % 256, by omega⟩ d) * v1 (ix2 d v)
    + Scalar.select (IntOp.cmpi CmpIPredicate.slt (BitVec.ofNat 32 ↑v) 56#32) (v6 (ix2 0 v)) (Named.named (F := Ideal) (φ := .f32) κ "mask" 0xF149F2CA#32)

/-- The kernel's log-probabilities, read at a row and a lane. -/
theorem pay20_at (v1 : Vec Ideal S1024x128 .bf16) (v6 : Vec Ideal S1x128 .f32) (v14 : Vec Ideal S32x256x1024 .bf16) (row : Fin 8192) (v : Fin 128) :
    k0_pay20 (F := Ideal) v1 v6 v14 (ix2 row v) = lane v1 v6 v14 row v
      - (Finset.univ.fold max (Ideal.ofBits .f32 0xFF800000#32) (lane v1 v6 v14 row)
        + Ideal.log (∑ x, Ideal.exp (lane v1 v6 v14 row x - Finset.univ.fold max (Ideal.ofBits .f32 0xFF800000#32) (lane v1 v6 v14 row)))) := by
  pointwise [k0_pay20]
  rfl

/-- A row whose lanes hold 56 real logits holds their normalised values, and `⊥` past them. -/
theorem logp_of_lane (z : Fin 56 → ℝ) (f : Fin 128 → EReal) (hf : ∀ v : Fin 128, f v = if h : v.val < 56 then ((z ⟨v.val, h⟩ : ℝ) : EReal) else ⊥) (v : Fin 128) :
    f v - (Finset.univ.fold max (⊥ : EReal) f + Ideal.log (∑ x, Ideal.exp (f x - Finset.univ.fold max (⊥ : EReal) f)))
      = if h : v.val < 56 then ((z ⟨v.val, h⟩ - rowLse z : ℝ) : EReal) else ⊥ := by
  obtain ⟨m, hm⟩ := lanes_max z f hf
  rw [hm, lanes_sum z f m hf, log_sum_exp z (by decide) m, ← EReal.coe_add, hf]
  split
  · rw [← EReal.coe_sub]
    congr 1
    ring
  · exact EReal.bot_sub _

end Cert.Ctc.Ker
-- ==== Proof.KernelBlock.lean ====
/- A grid point's blocks against the loss's own quantities: the emissions and the allowed skips. -/
module

public import proofs.«01_k».proof.Proof.KernelEmit
public import proofs.«01_k».proof.Proof.KernelLogp

@[expose] public section

set_option maxRecDepth 16384

noncomputable section

namespace Cert.Ctc.Ker

open Idealize.ShloMosaic Idealize.ShloMosaic.TcCoe Cert.KernelIdeal Cert.KernelIdeal.Gen

/-- What the kernel's blocks hold at grid point `n`: 256 frames of the features, the padded weights and bias, the labels, and the
    labels one place on, with minus one first. -/
structure Block (a : Args) (n : Fin 8) (x0 : Vec Ideal S32x256x1024 .bf16) (x1 : Vec Ideal S1024x128 .bf16) (x2 : Vec Ideal S1x128 .f32)
    (x3 : Vec Ideal S32x256 .i32) (x4 : Vec Ideal S32x256 .i32) : Prop where
  x : ∀ (r : Fin 32) (j : Fin 256) (d : Fin 1024), x0 (ix3 r j d) = a.x (ix3 r ⟨256 * n.val + j.val, by omega⟩ d)
  w : ∀ (d : Fin 1024) (v : Fin 128), x1 (ix2 d v) = if h : v.val < 56 then a.w (ix2 ⟨v.val, h⟩ d) else 0
  bias : ∀ (v : Fin 128) (h : v.val < 56), x2 (ix2 0 v) = a.bias (ix1 ⟨v.val, h⟩)
  tg : ∀ (r : Fin 32) (s : Fin 256), x3 (ix2 r s) = a.tg (ix2 r s)
  tgp : ∀ (r : Fin 32) (s : Fin 256), x4 (ix2 r s) = if h : s.val = 0 then 4294967295#32 else a.tg (ix2 r ⟨s.val - 1, by omega⟩)

variable {a : Args} (ha : a.Ok) {n : Fin 8} {x0 : Vec Ideal S32x256x1024 .bf16} {x1 : Vec Ideal S1024x128 .bf16} {x2 : Vec Ideal S1x128 .f32}
    {x3 : Vec Ideal S32x256 .i32} {x4 : Vec Ideal S32x256 .i32} (hb : Block a n x0 x1 x2 x3 x4)

theorem lane_lt : ∀ v : Fin 128, IntOp.cmpi CmpIPredicate.slt (BitVec.ofNat 32 v.val) 56#32 = if v.val < 56 then 1#1 else 0#1 := by
  decide +kernel

include ha hb in
/-- A row's lanes: the logits of its sequence and frame, and `⊥` past the 56 classes. -/
theorem lane_eq (r : Fin 32) (j : Fin 256) (v : Fin 128) : lane x1 x2 x0 ⟨256 * r.val + j.val, by omega⟩ v
    = if h : v.val < 56 then ((a.logit r ⟨256 * n.val + j.val, by omega⟩ ⟨v.val, h⟩ : ℝ) : EReal) else ⊥ := by
  unfold lane
  rw [lane_lt, mask_eq]
  have e1 : (⟨(256 * r.val + j.val) / 256, by omega⟩ : Fin 32) = r := Fin.ext (by show (256 * r.val + j.val) / 256 = r.val; omega)
  have e2 : (⟨(256 * r.val + j.val) % 256, by omega⟩ : Fin 256) = j := Fin.ext (by show (256 * r.val + j.val) % 256 = j.val; omega)
  by_cases h : v.val < 56
  · rw [if_pos h, dif_pos h, ← a.logit_coe ha]
    refine congrArg₂ (· + ·) (Finset.sum_congr rfl fun d _ => ?_) ?_
    · rw [hb.w, dif_pos h]
      refine congrArg (· * _) ((congrArg₂ (fun p q => x0 (ix3 p q d)) e1 e2).trans (hb.x r j d))
    · exact hb.bias v h
  · rw [if_neg h, dif_neg h]
    show _ + ⊥ = _
    exact EReal.add_bot _

include ha hb in
/-- The table of emissions: at a frame, a sequence and a label place, the label's log-probability plus one. -/
theorem emit_eq (j : Fin 256) (r : Fin 32) (s : Fin 256) :
    View.canon (ePieces x1 x2 x3 x0) (ix3 j r s) = ((a.seq r).e (256 * n.val + j.val) s.val : EReal) + ((1 : ℝ) : EReal) := by
  rw [emit_at]
  show emitAt _ _ j r s = _
  unfold emitAt
  refine congrArg (· + _) ?_
  have hl : (a.tg (ix2 r s)).toNat < 56 := ha.tg _
  rw [Finset.sum_eq_single (⟨(a.tg (ix2 r s)).toNat, by omega⟩ : Fin 128)]
  · rw [hb.tg, if_pos (show a.tg (ix2 r s) = BitVec.ofNat 32 (a.tg (ix2 r s)).toNat from by rw [BitVec.ofNat_toNat, BitVec.setWidth_eq]), EReal.coe_one, mul_one, pay20_at, ofBits_neg_inf,
      logp_of_lane (a.logit r ⟨256 * n.val + j.val, by omega⟩) _ (lane_eq ha hb r j), dif_pos hl]
    show _ = ((a.lp r (Fin.ofNat 2048 (256 * n.val + j.val)) (a.label r (Fin.ofNat 256 s.val)) : ℝ) : EReal)
    have e1 : Fin.ofNat 2048 (256 * n.val + j.val) = ⟨256 * n.val + j.val, by omega⟩ := Fin.ext (Nat.mod_eq_of_lt (by omega))
    have e2 : Fin.ofNat 256 s.val = s := Fin.ext (Nat.mod_eq_of_lt s.isLt)
    have e3 : a.label r s = ⟨(a.tg (ix2 r s)).toNat, hl⟩ := Fin.ext (Nat.mod_eq_of_lt hl)
    rw [e1, e2, e3]
    rfl
  · intro v _ hv
    rw [hb.tg, if_neg, mul_zero]
    intro e
    apply hv
    refine Fin.ext ?_
    show v.val = (a.tg (ix2 r s)).toNat
    rw [e, BitVec.toNat_ofNat, Nat.mod_eq_of_lt (by omega)]
  · intro h
    exact absurd (Finset.mem_univ _) h

theorem ne_select (x y : BitVec 32) (u w : EReal) : Scalar.select (IntOp.cmpi CmpIPredicate.ne x y) u w = if x ≠ y then u else w := by
  show (if BitVec.ofBool (x != y) = 1#1 then u else w) = _
  by_cases h : x = y
  · subst h
    simp
  · simp [h, bne, beq_eq_decide]

include ha hb in
/-- The kernel's table of allowed skips. -/
theorem skips_eq (r : Fin 32) : Skips (a.seq r) r (k0_pay63 (F := Ideal) x3 (k0_pay19 (F := Ideal) x4)) := by
  intro s
  pointwise [k0_pay63, k0_pay19]
  rw [ne_select, mask_eq, hb.tg, hb.tgp]
  have es : Fin.ofNat 256 s.val = s := Fin.ext (Nat.mod_eq_of_lt s.isLt)
  have hk : (a.seq r).skip s.val ↔ (s.val = 0 ∨ a.tg (ix2 r s) ≠ a.tg (ix2 r (Fin.ofNat 256 (s.val - 1)))) := by
    show (s.val = 0 ∨ a.tg (ix2 r (Fin.ofNat 256 s.val)) ≠ _) ↔ _
    rw [es]
  suffices hi : (a.tg (ix2 r s) ≠ if h : s.val = 0 then 4294967295#32 else a.tg (ix2 r ⟨s.val - 1, by omega⟩)) ↔ (a.seq r).skip s.val by
    by_cases hs : (a.seq r).skip s.val
    · rw [if_pos hs, if_pos (hi.mpr hs)]
    · rw [if_neg hs, if_neg fun e => hs (hi.mp e)]
  rw [hk]
  by_cases h : s.val = 0
  · rw [dif_pos h]
    refine ⟨fun _ => Or.inl h, fun _ e => ?_⟩
    have hl : (a.tg (ix2 r s)).toNat < 56 := ha.tg _
    rw [e] at hl
    exact absurd hl (by decide)
  · rw [dif_neg h]
    have e1 : Fin.ofNat 256 (s.val - 1) = ⟨s.val - 1, by omega⟩ := Fin.ext (Nat.mod_eq_of_lt (by omega))
    rw [e1]
    exact ⟨Or.inr, fun o => o.resolve_left h⟩

end Cert.Ctc.Ker
-- ==== Proof.KernelPoint.lean ====
/- One grid point of the kernel: the carried state goes 256 frames on, and the last point's output is the loss. -/
module

public import proofs.«01_k».proof.Proof.KernelBlock
public import proofs.«01_k».proof.Proof.Gen.KernelIdeal.Frame

@[expose] public section

set_option maxRecDepth 16384

noncomputable section

namespace Cert.Ctc.Ker

open Idealize.ShloMosaic Idealize.ShloMosaic.TcCoe Cert.KernelIdeal Cert.KernelIdeal.Gen

theorem z2 : (![0, 0] : Fin 2 → ℕ) = fun _ => 0 := by decide
theorem z3 : (![0, 0, 0] : Fin 3 → ℕ) = fun _ => 0 := by decide

/-- The 32 row stores cover the table. -/
theorem ePieces_cover (v1 : Vec Ideal S1024x128 .bf16) (v6 : Vec Ideal S1x128 .f32) (v10 : Vec Ideal S32x256 .i32) (v14 : Vec Ideal S32x256x1024 .bf16) :
    ∀ y, ∃ p ∈ ePieces v1 v6 v10 v14, y ∈ p.1.set :=
  View.cover_of_tiled _ S256x1x256.size (by unfold ePieces; rfl)

variable {a : Args} (ha : a.Ok) {n : Fin 8} {x0 : Vec Ideal S32x256x1024 .bf16} {x1 : Vec Ideal S1024x128 .bf16} {x2 : Vec Ideal S1x128 .f32}
    {x3 : Vec Ideal S32x256 .i32} {x4 : Vec Ideal S32x256 .i32} (hb : Block a n x0 x1 x2 x3 x4)

/-- A row of the state carried into or out of the loop. -/
abbrev RowP (c : Acc) (r : Fin 32) (p : Vec Ideal S32x256 .f32 × Vec Ideal S32x256 .f32 × Vec Ideal S32x128 .f32) : Prop := Row c r p.1 p.2.1 p.2.2

include ha hb in
/-- The loop at a grid point, over the point's table of emissions. -/
theorem loop_end (c : Dev nD) (i : grid0.Coords) (arg1 : Memref sig .tc .vmem S32x256x1024 .bf16) (h1 : arg1.IsWhole) (arg2 : Memref sig .tc .vmem S1024x128 .bf16) (h2 : arg2.IsWhole) (arg3 : Memref sig .tc .vmem S1x128 .f32) (h3 : arg3.IsWhole) (arg4 : Memref sig .tc .vmem S32x256 .i32) (h4 : arg4.IsWhole) (arg5 : Memref sig .tc .vmem S32x256 .i32) (h5 : arg5.IsWhole) (arg6 : Memref sig .tc .vmem S32x128 .f32) (h6 : arg6.IsWhole) (arg7 : Memref sig .tc .vmem S256x32x256 .f32) (h7 : arg7.IsWhole) (arg8 : Memref sig .tc .vmem S32x256 .f32) (h8 : arg8.IsWhole) (arg9 : Memref sig .tc .vmem S32x256 .f32) (h9 : arg9.IsWhole) (arg10 : Memref sig .tc .vmem S32x128 .f32) (h10 : arg10.IsWhole) (w0) (w399) (v0) (init)
    (r : Fin 32) (h : RowP (acc (a.seq r) (256 * n.val)) r init) :
    RowP (acc (a.seq r) (256 * n.val + 256)) r (st_k0_t1 (F := Ideal) Variants.none c none i arg1 h1 arg2 h2 arg3 h3 arg4 h4 arg5 h5 arg6 h6 arg7 h7 arg8 h8 arg9 h9 arg10 h10 w0 v0 x3 (k0_pay19 (F := Ideal) x4) ei (k0_pay20 (F := Ideal) x1 x2 x0) w399
      (arg7.view.writes (Elt Ideal) arg7.view.junk (ePieces x1 x2 x3 x0)) init k0_t1_loop.trips) := by
  have hX : ∀ (j : Fin 256) (s : Fin 256), arg7.view.read (Elt Ideal) (arg7.view.writes (Elt Ideal) arg7.view.junk (ePieces x1 x2 x3 x0)) (ix3 j r s)
      = ((a.seq r).e (256 * n.val + j.val) s.val : EReal) + ((1 : ℝ) : EReal) := by
    intro j s
    rw [View.read_writes_eq_canon _ _ _ (ePieces_cover x1 x2 x3 x0)]
    exact emit_eq ha hb j r s
  have e := loop_row (q := a.seq r) (r := r) (t := 256 * n.val) Variants.none c none i arg1 h1 arg2 h2 arg3 h3 arg4 h4 arg5 h5 arg6 h6 arg7 h7 arg8 h8 arg9 h9 arg10 h10 w0 v0 x3 (k0_pay19 (F := Ideal) x4) ei (k0_pay20 (F := Ideal) x1 x2 x0) w399 _ init h (skips_eq ha hb r) hX k0_t1_loop.trips le_rfl
  rw [show 256 * n.val + 4 * k0_t1_loop.trips = 256 * n.val + 256 by rw [trips_eq]] at e
  exact e

include ha hb in
/-- A point between the first and the last. -/
theorem point_B (c : Dev nD) (i : grid0.Coords) (arg1 : Memref sig .tc .vmem S32x256x1024 .bf16) (h1 : arg1.IsWhole) (arg2 : Memref sig .tc .vmem S1024x128 .bf16) (h2 : arg2.IsWhole) (arg3 : Memref sig .tc .vmem S1x128 .f32) (h3 : arg3.IsWhole) (arg4 : Memref sig .tc .vmem S32x256 .i32) (h4 : arg4.IsWhole) (arg5 : Memref sig .tc .vmem S32x256 .i32) (h5 : arg5.IsWhole) (arg6 : Memref sig .tc .vmem S32x128 .f32) (h6 : arg6.IsWhole) (arg7 : Memref sig .tc .vmem S256x32x256 .f32) (h7 : arg7.IsWhole) (arg8 : Memref sig .tc .vmem S32x256 .f32) (h8 : arg8.IsWhole) (arg9 : Memref sig .tc .vmem S32x256 .f32) (h9 : arg9.IsWhole) (arg10 : Memref sig .tc .vmem S32x128 .f32) (h10 : arg10.IsWhole) (hc0 : ¬cond0_0 i) (hc1 : ¬cond0_1 i) (xs1 xs2 : Vec Ideal S32x256 .f32) (xs3 : Vec Ideal S32x128 .f32)
    (r : Fin 32) (h : Row (acc (a.seq r) (256 * n.val)) r xs1 xs2 xs3) :
    Row (acc (a.seq r) (256 * n.val + 256)) r (sout0_B_1 (F := Ideal) c i arg1 h1 arg2 h2 arg3 h3 arg4 h4 arg5 h5 arg6 h6 arg7 h7 arg8 h8 arg9 h9 arg10 h10 hc0 hc1 x0 x1 x2 x3 x4 xs1 xs2 xs3)
      (sout0_B_2 (F := Ideal) c i arg1 h1 arg2 h2 arg3 h3 arg4 h4 arg5 h5 arg6 h6 arg7 h7 arg8 h8 arg9 h9 arg10 h10 hc0 hc1 x0 x1 x2 x3 x4 xs1 xs2 xs3) (sout0_B_3 (F := Ideal) c i arg1 h1 arg2 h2 arg3 h3 arg4 h4 arg5 h5 arg6 h6 arg7 h7 arg8 h8 arg9 h9 arg10 h10 hc0 hc1 x0 x1 x2 x3 x4 xs1 xs2 xs3) := by
  unfold sout0_B_1 sout0_B_2 sout0_B_3
  rw [View.read_writes_eq_canon _ _ _ (scover0_B_1 c i arg1 h1 arg2 h2 arg3 h3 arg4 h4 arg5 h5 arg6 h6 arg7 h7 arg8 h8 arg9 h9 arg10 h10 hc0 hc1 x0 x1 x2 x3 x4 xs1 xs2 xs3),
    View.read_writes_eq_canon _ _ _ (scover0_B_2 c i arg1 h1 arg2 h2 arg3 h3 arg4 h4 arg5 h5 arg6 h6 arg7 h7 arg8 h8 arg9 h9 arg10 h10 hc0 hc1 x0 x1 x2 x3 x4 xs1 xs2 xs3),
    View.read_writes_eq_canon _ _ _ (scover0_B_3 c i arg1 h1 arg2 h2 arg3 h3 arg4 h4 arg5 h5 arg6 h6 arg7 h7 arg8 h8 arg9 h9 arg10 h10 hc0 hc1 x0 x1 x2 x3 x4 xs1 xs2 xs3)]
  unfold kernelRun0_B
  dsimp only
  sl_unfold_run_names
  rw [View.canon_unit_zero (S := S32x256) z2, View.canon_unit_zero (S := S32x256) z2, View.canon_unit_zero (S := S32x128) z2]
  unfold k0_pay73 k0_pay1 k0_pay2
  simp only [shapeCast_self, View.readAt_eq_ld, h1.read_unread, h2.read_unread, h3.read_unread, h4.read_unread, h5.read_unread, h8.read_unread, h9.read_unread, h10.read_unread,
    View.ld_unit_zero (S := S32x256) z2, View.ld_unit_zero (S := S32x128) z2, View.ld_unit_zero (S := S1024x128) z2, View.ld_unit_zero (S := S1x128) z2, View.ld_unit_zero (S := S32x256x1024) z3]
  exact loop_end ha hb c i arg1 h1 arg2 h2 arg3 h3 arg4 h4 arg5 h5 arg6 h6 arg7 h7 arg8 h8 arg9 h9 arg10 h10 _ _ _ (xs1, xs2, xs3) r h

/-- The state the first point starts from. -/
theorem init_row (q : Seq) (r : Fin 32) : Row (acc q 0) r (k0_pay65 (F := Ideal) (iota .tc S1x256 32 [1] iota_S1x256_d1_w32)) (k0_pay66 (F := Ideal)) (k0_pay67 (F := Ideal)) := by
  have hlt : ∀ v : Fin 256, IntOp.cmpi CmpIPredicate.slt (BitVec.ofNat 32 v.val) 1#32 = if v.val = 0 then 1#1 else 0#1 := by decide +kernel
  refine ⟨fun s => ?_, fun s => ?_, ?_⟩
  · pointwise [k0_pay65]
    rw [hlt, mask_eq]
    show Scalar.select _ _ _ = if s.val = 0 then (0 : EReal) else ⊥
    by_cases h : s.val = 0
    · rw [if_pos h, if_pos h]
      first | rfl | (show Ideal.ofBits .f32 0x00000000#32 = 0; exact Ideal.ofBits_zero .f32)
    · rw [if_neg h, if_neg h]
      rfl
  · pointwise [k0_pay66]
    exact mask_eq
  · pointwise [k0_pay67]
    exact mask_eq

include ha hb in
/-- The first point. -/
theorem point_A (h0 : n.val = 0) (c : Dev nD) (i : grid0.Coords) (arg1 : Memref sig .tc .vmem S32x256x1024 .bf16) (h1 : arg1.IsWhole) (arg2 : Memref sig .tc .vmem S1024x128 .bf16) (h2 : arg2.IsWhole) (arg3 : Memref sig .tc .vmem S1x128 .f32) (h3 : arg3.IsWhole) (arg4 : Memref sig .tc .vmem S32x256 .i32) (h4 : arg4.IsWhole) (arg5 : Memref sig .tc .vmem S32x256 .i32) (h5 : arg5.IsWhole) (arg6 : Memref sig .tc .vmem S32x128 .f32) (h6 : arg6.IsWhole) (arg7 : Memref sig .tc .vmem S256x32x256 .f32) (h7 : arg7.IsWhole) (arg8 : Memref sig .tc .vmem S32x256 .f32) (h8 : arg8.IsWhole) (arg9 : Memref sig .tc .vmem S32x256 .f32) (h9 : arg9.IsWhole) (arg10 : Memref sig .tc .vmem S32x128 .f32) (h10 : arg10.IsWhole) (hc0 : cond0_0 i) (hc1 : ¬cond0_1 i)
    (r : Fin 32) :
    Row (acc (a.seq r) (256 * n.val + 256)) r (sout0_A_1 (F := Ideal) c i arg1 h1 arg2 h2 arg3 h3 arg4 h4 arg5 h5 arg6 h6 arg7 h7 arg8 h8 arg9 h9 arg10 h10 hc0 hc1 x0 x1 x2 x3 x4)
      (sout0_A_2 (F := Ideal) c i arg1 h1 arg2 h2 arg3 h3 arg4 h4 arg5 h5 arg6 h6 arg7 h7 arg8 h8 arg9 h9 arg10 h10 hc0 hc1 x0 x1 x2 x3 x4) (sout0_A_3 (F := Ideal) c i arg1 h1 arg2 h2 arg3 h3 arg4 h4 arg5 h5 arg6 h6 arg7 h7 arg8 h8 arg9 h9 arg10 h10 hc0 hc1 x0 x1 x2 x3 x4) := by
  unfold sout0_A_1 sout0_A_2 sout0_A_3
  rw [View.read_writes_eq_canon _ _ _ (scover0_A_1 c i arg1 h1 arg2 h2 arg3 h3 arg4 h4 arg5 h5 arg6 h6 arg7 h7 arg8 h8 arg9 h9 arg10 h10 hc0 hc1 x0 x1 x2 x3 x4),
    View.read_writes_eq_canon _ _ _ (scover0_A_2 c i arg1 h1 arg2 h2 arg3 h3 arg4 h4 arg5 h5 arg6 h6 arg7 h7 arg8 h8 arg9 h9 arg10 h10 hc0 hc1 x0 x1 x2 x3 x4),
    View.read_writes_eq_canon _ _ _ (scover0_A_3 c i arg1 h1 arg2 h2 arg3 h3 arg4 h4 arg5 h5 arg6 h6 arg7 h7 arg8 h8 arg9 h9 arg10 h10 hc0 hc1 x0 x1 x2 x3 x4)]
  unfold kernelRun0_A
  dsimp only
  sl_unfold_run_names
  rw [View.canon_cons_unit_zero (S := S32x256) z2, View.canon_cons_unit_zero (S := S32x256) z2, View.canon_cons_unit_zero (S := S32x128) z2]
  unfold k0_pay73 k0_pay1 k0_pay2
  rw [View.readCov_unit_zero (S := S32x256) _ z2, View.readCov_unit_zero (S := S32x256) _ z2, View.readCov_unit_zero (S := S32x128) _ z2]
  simp only [shapeCast_self, View.readAt_eq_ld, h1.read_unread, h2.read_unread, h3.read_unread, h4.read_unread, h5.read_unread, h8.read_unread, h9.read_unread, h10.read_unread,
    View.ld_unit_zero (S := S32x256) z2, View.ld_unit_zero (S := S32x128) z2, View.ld_unit_zero (S := S1024x128) z2, View.ld_unit_zero (S := S1x128) z2, View.ld_unit_zero (S := S32x256x1024) z3]
  exact loop_end ha hb c i arg1 h1 arg2 h2 arg3 h3 arg4 h4 arg5 h5 arg6 h6 arg7 h7 arg8 h8 arg9 h9 arg10 h10 _ _ _ (_, _, _) r (by rw [h0]; exact init_row _ r)

/-- The last point's output, from the carried state after the last frame: the loss. -/
theorem final_row (q : Seq) (r : Fin 32) (ae ao : Vec Ideal S32x256 .f32) (lam : Vec Ideal S32x128 .f32) (l : Fin 128) (h : Row (acc q 2048) r ae ao lam) :
    k0_pay3 (F := Ideal) ao lam (ix2 r l) = -lse (alpha q 2047 512) (alpha q 2047 511) := by
  obtain ⟨_, ho, hl⟩ := h
  obtain ⟨_, no, nl⟩ := acc_ne_top q 2048
  pointwise [k0_pay3]
  have hv : ((255 : Fin 256) : ℕ) = 255 := by decide
  have ho' := ho 255
  rw [hv] at ho'
  rw [hl, ho']
  have e := score_eq q 2047
  simp only [Nat.reduceAdd] at e
  have e1 : Ideal.ofBits .f32 0x45000000#32 * Ideal.ofBits .f32 0xBF800000#32 = ((-(((2047 : ℕ) : ℝ) + 1) : ℝ) : EReal) := by
    rw [ofBits_neg_one, show Ideal.ofBits .f32 0x45000000#32 = ((2048 : ℝ) : EReal) from by simp [Ideal.ofBits, Ideal.ieee, -EReal.coe_mul]; norm_num, ← EReal.coe_mul]
    norm_num
  rw [lse_shift nl (no _), e1, zero_sub, e]

include ha hb in
/-- The last point. -/
theorem point_C (c : Dev nD) (i : grid0.Coords) (arg1 : Memref sig .tc .vmem S32x256x1024 .bf16) (h1 : arg1.IsWhole) (arg2 : Memref sig .tc .vmem S1024x128 .bf16) (h2 : arg2.IsWhole) (arg3 : Memref sig .tc .vmem S1x128 .f32) (h3 : arg3.IsWhole) (arg4 : Memref sig .tc .vmem S32x256 .i32) (h4 : arg4.IsWhole) (arg5 : Memref sig .tc .vmem S32x256 .i32) (h5 : arg5.IsWhole) (arg6 : Memref sig .tc .vmem S32x128 .f32) (h6 : arg6.IsWhole) (arg7 : Memref sig .tc .vmem S256x32x256 .f32) (h7 : arg7.IsWhole) (arg8 : Memref sig .tc .vmem S32x256 .f32) (h8 : arg8.IsWhole) (arg9 : Memref sig .tc .vmem S32x256 .f32) (h9 : arg9.IsWhole) (arg10 : Memref sig .tc .vmem S32x128 .f32) (h10 : arg10.IsWhole) (hc0 : ¬cond0_0 i) (hc1 : cond0_1 i) (xs1 xs2 : Vec Ideal S32x256 .f32) (xs3 : Vec Ideal S32x128 .f32)
    (r : Fin 32) (h : Row (acc (a.seq r) (256 * n.val)) r xs1 xs2 xs3) (hn : n.val = 7) (l : Fin 128) :
    out0_C_5 (F := Ideal) c i arg1 h1 arg2 h2 arg3 h3 arg4 h4 arg5 h5 arg6 h6 arg7 h7 arg8 h8 arg9 h9 arg10 h10 hc0 hc1 x0 x1 x2 x3 x4 xs1 xs2 xs3 (ix2 r l) = a.loss r := by
  unfold out0_C_5
  rw [View.read_writes_eq_canon _ _ _ (cover0_C_5 c i arg1 h1 arg2 h2 arg3 h3 arg4 h4 arg5 h5 arg6 h6 arg7 h7 arg8 h8 arg9 h9 arg10 h10 hc0 hc1 x0 x1 x2 x3 x4 xs1 xs2 xs3)]
  unfold kernelRun0_C
  dsimp only
  sl_unfold_run_names
  rw [View.canon_unit_zero (S := S32x128) z2]
  simp only [shapeCast_self, View.readAt_eq_ld, h1.read_unread, h2.read_unread, h3.read_unread, h4.read_unread, h5.read_unread, h8.read_unread, h9.read_unread, h10.read_unread,
    View.ld_unit_zero (S := S32x256) z2, View.ld_unit_zero (S := S32x128) z2, View.ld_unit_zero (S := S1024x128) z2, View.ld_unit_zero (S := S1x128) z2, View.ld_unit_zero (S := S32x256x1024) z3]
  have e := loop_end ha hb c i arg1 h1 arg2 h2 arg3 h3 arg4 h4 arg5 h5 arg6 h6 arg7 h7 arg8 h8 arg9 h9 arg10 h10 (BitVec.ofNat 32 (i 0).val) (k0_pay60 (F := Ideal) x3 ei (k0_pay20 (F := Ideal) x1 x2 x0)) (iota .tc S1x256 32 [1] iota_S1x256_d1_w32) (xs1, xs2, xs3) r h
  rw [hn] at e
  exact final_row _ r _ _ _ l e

end Cert.Ctc.Ker
-- ==== Proof.KernelHost.lean ====
/- What the host operations before the kernel leave in the arrays its blocks are taken from. -/
module

public import proofs.«01_k».proof.Proof.KernelBlock
public import proofs.«01_k».proof.Proof.Gen.KernelIdeal.Frame
public import Idealize.ShloMosaic.Lib.Routing.OpsSet
public import Idealize.ShloMosaic.Lib.Routing.OpsPair
public import Idealize.ShloMosaic.Lib.StableHlo.ReadAt
public import Idealize.ShloMosaic.Lib.Pipeline.ValueKit

@[expose] public section

set_option maxRecDepth 16384

noncomputable section

namespace Cert.Ctc.Ker

open Idealize.ShloMosaic Idealize.ShloMosaic.TcCoe Cert.KernelIdeal Cert.KernelIdeal.Gen Idealize.ShloMosaic.Routing

/-- Where the weights' update lands: at its own place. -/
theorem lands_w (idx : IVec S1 32) (h : ∀ i, idx i = 0#32) (k : S1024x56.Idx) (d : Fin 1024) (v : Fin 128) :
    scatter_S1024x128_S1_S1024x56_01_n_1_0.resultIdx? k idx = some (ix2 d v) ↔ (k 0).val = d.val ∧ (k 1).val = v.val := by
  have w0 : scatter_S1024x128_S1_S1024x56_01_n_1_0.window k 0 = (k 0).val := rfl
  have w1 : scatter_S1024x128_S1_S1024x56_01_n_1_0.window k 1 = (k 1).val := rfl
  have s0 : scatter_S1024x128_S1_S1024x56_01_n_1_0.start k idx 0 = 0 := rfl
  have s1 : scatter_S1024x128_S1_S1024x56_01_n_1_0.start k idx 1 = 0 := by
    unfold ScatterDims.start
    split
    · rw [h]; rfl
    · rfl
  refine (resultIdx?_ix2 _ k idx d v).trans ?_
  rw [w0, w1, s0, s1]
  omega

/-- The weights, placed in the padded array, at an index. -/
theorem scatter_w (x0 : FVec Ideal S1024x128 .f32) (idx : IVec S1 32) (h : ∀ i, idx i = 0#32) (u : FVec Ideal S1024x56 .f32) (d : Fin 1024) (v : Fin 128) :
    Host.scatter scatter_S1024x128_S1_S1024x56_01_n_1_0 (fun _ b => b) x0 idx u (ix2 d v) = if h : v.val < 56 then u (ix2 d ⟨v.val, h⟩) else x0 (ix2 d v) := by
  by_cases hv : v.val < 56
  · rw [dif_pos hv]
    refine scatter_set_hit _ x0 idx u _ _ (fun k hk => ?_) (ix2 d ⟨v.val, hv⟩) ((lands_w idx h _ d v).2 ⟨rfl, rfl⟩)
    obtain ⟨e0, e1⟩ := (lands_w idx h k d v).1 hk
    refine congrArg u (funext fun a => ?_)
    match a with
    | ⟨0, _⟩ => exact Fin.ext e0
    | ⟨1, _⟩ => exact Fin.ext e1
  · rw [dif_neg hv]
    refine scatter_set_miss _ x0 idx u _ fun k hk => hv ?_
    rw [← ((lands_w idx h k d v).1 hk).2]
    exact (k 1).isLt

/-- Where the bias's update lands. -/
theorem lands_b (idx : IVec S2 32) (h : ∀ i, idx i = 0#32) (k : S56.Idx) (d : Fin 1) (v : Fin 128) :
    scatter_S1x128_S2_S56_0_0_01_0.resultIdx? k idx = some (ix2 d v) ↔ (k 0).val = v.val := by
  have w0 : scatter_S1x128_S2_S56_0_0_01_0.window k 0 = 0 := rfl
  have w1 : scatter_S1x128_S2_S56_0_0_01_0.window k 1 = (k 0).val := rfl
  have s : ∀ a, scatter_S1x128_S2_S56_0_0_01_0.start k idx a = 0 := fun a => by
    unfold ScatterDims.start
    split
    · rw [h]; rfl
    · rfl
  refine (resultIdx?_ix2 _ k idx d v).trans ?_
  rw [w0, w1, s, s]
  omega

/-- The bias, placed in the padded row, at a lane below 56. -/
theorem scatter_b (x0 : FVec Ideal S1x128 .f32) (idx : IVec S2 32) (h : ∀ i, idx i = 0#32) (u : FVec Ideal S56 .f32) (v : Fin 128) (hv : v.val < 56) :
    Host.scatter scatter_S1x128_S2_S56_0_0_01_0 (fun _ b => b) x0 idx u (ix2 0 v) = u (ix1 ⟨v.val, hv⟩) := by
  refine scatter_set_hit _ x0 idx u _ _ (fun k hk => ?_) (ix1 ⟨v.val, hv⟩) ((lands_b idx h _ 0 v).2 rfl)
  have e0 := (lands_b idx h k 0 v).1 hk
  refine congrArg u (funext fun a => ?_)
  match a with
  | ⟨0, _⟩ => exact Fin.ext e0

variable (m : (ℓ : Loc nD τ sig) → Buf (Elt Ideal) ℓ)

/-- The launch's arguments. -/
def args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5)⟩

/-- The windows' block indices. -/
theorem idxs : ∀ t : Fin cfg0.N, win0_0.index t = ![0, t.val, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The features as the kernel reads them. -/
theorem v12_at (c : Dev nD) (r : Fin 32) (t : Fin 2048) (d : Fin 1024) : V m c main_v12 (ix3 r t d) = m ((c : Thread nD τ).loc main_arg0) (ix3 r t d) := by
  unfold V V0
  after_reads_at

/-- Narrowing a real number's format keeps it. -/
theorem narrow_at (X : FVec Ideal S1024x128 .f32) (i : S1024x128.Idx) : truncf (F := Ideal) .bf16 X bitsLt_bf16_f32 i = X i := rfl

/-- The padded weights as the kernel reads them. -/
theorem v13_at (c : Dev nD) (d : Fin 1024) (v : Fin 128) : V m c main_v13 (ix2 d v) = if h : v.val < 56 then m ((c : Thread nD τ).loc main_arg1) (ix2 ⟨v.val, h⟩ d) else (0 : EReal) := by
  unfold V V0
  after_reads_simp
  have hz : ∀ i, broadcastInDim S1 ![] bcast_S_S1 (constantI S_ 32 0#32) i = 0#32 := fun i => by pointwise
  rw [narrow_at, scatter_w _ _ hz _ d v]
  by_cases h : v.val < 56
  · rw [dif_pos h, dif_pos h]
    pointwise
  · rw [dif_neg h, dif_neg h]
    pointwise

/-- The padded bias as the kernel reads it. -/
theorem v8_at (c : Dev nD) (v : Fin 128) (h : v.val < 56) : V m c main_v8 (ix2 0 v) = m ((c : Thread nD τ).loc main_arg2) (ix1 ⟨v.val, h⟩) := by
  have e5 : ∀ i, StableHlo.upto (List.flatten [hostOps0 (F := Ideal)]) (fun b => m (c, b)) 12 (Proc.tc.devRef main_v5) i = 0#32 := fun i => by
    after_reads_simp
    rfl
  have e6 : ∀ i, StableHlo.upto (List.flatten [hostOps0 (F := Ideal)]) (fun b => m (c, b)) 12 (Proc.tc.devRef main_v6) i = 0#32 := fun i => by
    after_reads_simp
    rfl
  unfold V V0
  after_reads_simp
  refine (scatter_b _ _ ?_ _ v h).trans rfl
  intro i
  rw [eq_ix1 i]
  pointwise
  split
  · exact e5 _
  · exact e6 _

/-- The labels one place on as the kernel reads them. -/
theorem v11_at (c : Dev nD) (r : Fin 32) (s : Fin 256) : V m c main_v11 (ix2 r s) = if h : s.val = 0 then 4294967295#32 else m ((c : Thread nD τ).loc main_arg3) (ix2 r ⟨s.val - 1, by omega⟩) := by
  unfold V V0
  after_reads_at
  by_cases h : s.val = 0
  · rw [dif_pos h, dif_pos (by omega)]
  · rw [dif_neg h, dif_neg (by omega)]

/-- What the kernel's blocks hold at a grid point. -/
theorem block (c : Dev nD) (t : Fin cfg0.N) (n : Fin 8) (hn : n.val = t.val) :
    Block (args m c) n (iblk m c 0 t) (iblk m c 1 t) (iblk m c 2 t) (iblk m c 3 t) (iblk m c 4 t) where
  x r j d := by
    show _ = m ((c : Thread nD τ).loc main_arg0) _
    refine Eq.trans ?_ (v12_at m c r ⟨256 * n.val + j.val, by omega⟩ d)
    blk_ext [iblk, idxs t]
  w d v := by
    refine Eq.trans ?_ (v13_at m c d v)
    blk_simp [iblk]
    refine congrArg (V m c main_v13) (funext fun a => ?_)
    match a with
    | 0 => apply Fin.ext; blk_simp [idxs t]
    | 1 => apply Fin.ext; blk_simp [idxs t]
  bias v h := by
    refine Eq.trans ?_ (v8_at m c v h)
    blk_ext [iblk, idxs t]
  tg r s := by
    show _ = m ((c : Thread nD τ).loc main_arg3) _
    blk_ext [iblk, V, idxs t]
  tgp r s := by
    refine Eq.trans ?_ (v11_at m c r s)
    blk_ext [iblk, idxs t]

end Cert.Ctc.Ker
-- ==== Proof.KernelValue.lean ====
/- What the whole launch computes: the mean of the losses over the targets' lengths. -/
module

public import proofs.«01_k».proof.Proof.KernelPoint
public import proofs.«01_k».proof.Proof.KernelHost
public import proofs.«01_k».proof.Proof.RefValue

@[expose] public section

set_option maxRecDepth 16384

noncomputable section

namespace Cert.Ctc.Ker

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- After every point but the last, the carried buffers hold the recursion's state after the steps so far. -/
theorem carried (c : Dev nD) (ha : (args m c).Ok) (r : Fin 32) (n : ℕ) : ∀ (hn : n < cfg0.N) (k : Fin 8), k.val = n → n < 7 →
    Row (acc ((args m c).seq r) (256 * k.val + 256)) r (outsAt0 m c n hn).2.1 (outsAt0 m c n hn).2.2.1 (outsAt0 m c n hn).2.2.2 := by
  induction n with
  | zero =>
    intro hn k hk _
    have h0 : (⟨0, hn⟩ : Fin cfg0.N).val % 8 = 0 := rfl
    have h1 : ¬(⟨0, hn⟩ : Fin cfg0.N).val % 8 = 7 := by dsimp only; omega
    have e := outsAt0_A m c ⟨0, hn⟩ h0 h1
    dsimp only at e
    rw [e]
    dsimp only
    exact point_A ha (block m c ⟨0, hn⟩ k hk) hk (hc0 := (hcond0_0 _).mpr h0) (hc1 := fun k => h1 ((hcond0_1 _).mp k)) (r := r) ..
  | succ n ih =>
    intro hn k hk h7
    have h0 : ¬(⟨n + 1, hn⟩ : Fin cfg0.N).val % 8 = 0 := by dsimp only; omega
    have h1 : ¬(⟨n + 1, hn⟩ : Fin cfg0.N).val % 8 = 7 := by dsimp only; omega
    have e := outsAt0_B m c ⟨n + 1, hn⟩ h0 h1
    have h := ih (Nat.lt_of_succ_lt hn) ⟨n, by omega⟩ rfl (by omega)
    have ek : 256 * (⟨n, by omega⟩ : Fin 8).val + 256 = 256 * k.val := by dsimp only; omega
    rw [ek] at h
    simp only [Nat.add_sub_cancel] at e
    rw [e]
    dsimp only
    exact point_B ha (block m c ⟨n + 1, hn⟩ k hk) (hc0 := fun k => h0 ((hcond0_0 _).mp k))
      (hc1 := fun k => h1 ((hcond0_1 _).mp k)) (r := r) (h := h) ..

/-- The last point leaves each sequence's loss in its row of the output's buffer. -/
theorem last (c : Dev nD) (ha : (args m c).Ok) (n : ℕ) (hn : n + 1 < cfg0.N) (k : Fin 8) (hk : k.val = n + 1) (h7 : k.val = 7)
    (r : Fin 32) (l : Fin 128) : (outsAt0 m c (n + 1) hn).1 (ix2 r l) = (args m c).loss r := by
  have h := carried m c ha r n (Nat.lt_of_succ_lt hn) ⟨n, by omega⟩ rfl (by omega)
  have ek : 256 * (⟨n, by omega⟩ : Fin 8).val + 256 = 256 * k.val := by dsimp only; omega
  rw [ek] at h
  have h0 : ¬(⟨n + 1, hn⟩ : Fin cfg0.N).val % 8 = 0 := by dsimp only; omega
  have h1 : (⟨n + 1, hn⟩ : Fin cfg0.N).val % 8 = 7 := by dsimp only; omega
  have e := outsAt0_C m c ⟨n + 1, hn⟩ h0 h1
  simp only [Nat.add_sub_cancel] at e
  rw [e]
  dsimp only
  exact point_C ha (block m c ⟨n + 1, hn⟩ k hk) (hc0 := fun k => h0 ((hcond0_0 _).mp k))
    (hc1 := (hcond0_1 _).mpr h1) (r := r) (h := h) (hn := h7) (l := l) ..

/-- The launch's array ends with each sequence's loss all along its row. -/
theorem final (c : Dev nD) (ha : (args m c).Ok) :
    (dats m 0 c).arrAt 5 (cfgs 0).N = (fun i => (args m c).loss (i 0) : FVec Ideal S32x128 .f32) := by
  refine (dats m 0 c).arrAt_eq_of_after_last 5 t0_7 (by decide +kernel) _ fun j => ?_
  blk_simp
  rw [after0_5]
  obtain ⟨r, l, rfl⟩ : ∃ (r : Fin 32) (l : Fin 128), j = ix2 r l := ⟨j 0, j 1, by funext k; match k with | ⟨0, _⟩ => rfl | ⟨1, _⟩ => rfl⟩
  exact last m c ha 6 _ ⟨7, by omega⟩ rfl rfl r l

/-- The result: the mean, over the sequences, of each loss divided by its target's length. -/
theorem result_eq (c : Dev nD) (ha : (args m c).Ok) :
    Pipeline.afterTail₀ cfgs (dats m) 0 (V0 m) [hostOps1] c main_v20
      = Ref.meanLoss (Ref.losses (args m c)) (args m c).tl := by
  have e5 : Pipeline.withArrays (cfgs 0).spec c (V0 m c) (fun w => (dats m 0 c).arrAt w (cfgs 0).N) (Proc.tc.devRef main_arg5)
      = (args m c).tl := by
    refine (Pipeline.withArrays_of_ne _ c (V0 m c) _ main_arg5 (by decide)).trans ?_
    unfold V0
    after_reads_simp
    rfl
  have e14 : Pipeline.withArrays (cfgs 0).spec c (V0 m c) (fun w => (dats m 0 c).arrAt w (cfgs 0).N) (Proc.tc.devRef main_v14)
      = (fun i => (args m c).loss (i 0) : FVec Ideal S32x128 .f32) :=
    (Pipeline.withArrays_arr (cfgs 0).spec (by decide) c (V0 m c) _ 5).trans (final m c ha)
  have e16 : ∀ a : Args, shapeCast S32 (extractStridedSlice S32x1 ![0, 0] (fun i => a.loss (i 0) : FVec Ideal S32x128 .f32)
      slices_S32x128_S32x1_0_0) shapeCasts_S32x1_S32 = Ref.losses a := fun a => by
    funext i
    pointwise [Ref.losses]
  unfold Pipeline.afterTail₀
  after_reads_simp
  rw [e5, e14]
  have e := e16 (args m c)
  unfold Ref.meanLoss
  rw [← e]
  rfl

/-- The kernel's program runs, its result is the mean loss, and its arguments are unchanged. -/
theorem run (ha : ∀ c, (args m c).Ok) :
    θ_run (defs (F := Ideal)) (onTc (τ := τ) (main (F := Ideal))) ⟨m, fun _ => 0, ρ⟩ fun r => ∀ c : Dev nD,
      r.2.mem ((c.tc : Thread nD τ).loc main_v20) = Ref.meanLoss (Ref.losses (args m c)) (args m c).tl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v20 (Pipeline.mem_restRefs_of main_v20 (by decide) (by decide))).trans (result_eq m c (ha c)), h.2 c⟩)
    (θ_run_and (run_main m ρ) (unchanged m ρ))

end Cert.Ctc.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Precond
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem

/-- From memories that agree on the arguments and meet the precondition, the kernel and the reference end with the
    same mean loss. -/
theorem same_value : Cert.algebraic_KernelIdeal_ReferenceIdeal_pre_inputs_ok (hKernelIdeal := Cert.KernelIdeal.Gen.facts)
    (hReferenceIdeal := Cert.ReferenceIdeal.Gen.facts) (hPre_inputs_ok := Cert.Ctc.Pre.facts) := by
  intro m g m' g' hpre hargs
  have ok : ∀ c, (Cert.Ctc.Ker.args m c).Ok := fun c => @Cert.Ctc.Pre.ok Cert.Ctc.Pre.facts (Cert.Ctc.Ker.args m c) (hpre c)
  have same : ∀ c, Cert.Ctc.Ref.args m' c = Cert.Ctc.Ker.args m c := fun c => by
    obtain ⟨h0, h1, h2, h3, h4, h5⟩ := hargs c
    unfold Cert.Ctc.Ref.args Cert.Ctc.Ker.args
    exact Cert.Ctc.Args.mk.injEq .. ▸ ⟨h0, h1, h2, h3, h4, h5⟩
  refine ⟨fun c => Cert.Ctc.Ref.meanLoss (Cert.Ctc.Ref.losses (Cert.Ctc.Ker.args m c)) (Cert.Ctc.Ker.args m c).tl,
    Cert.Ctc.Ker.run m g ok, ?_⟩
  refine (θ_run _ _ _).mono (fun r h c => ⟨(h c).1.trans ?_, (h c).2⟩)
    (Cert.Ctc.Ref.run m' g' fun c => (same c).symm ▸ ok c)
  rw [same c]

/-- Every claim made of the kernel. -/
theorem claim : Cert.Claim := ⟨Cert.Kernel.Gen.facts, Cert.KernelIdeal.Gen.facts, Cert.ReferenceIdeal.Gen.facts, Cert.Ctc.Pre.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono
    (fun r h => ⟨fun c => (h c).2, Idealize.ShloMosaic.sem_eq_zero_of_no_sems (by decide) r.2⟩)
    (Cert.ReferenceIdeal.Value.run m ρ),
  fun m ρ _ => (θ_run _ _ _).mono
    (fun r h => ⟨fun c => (h c).2, Idealize.ShloMosaic.sem_eq_zero_of_no_sems (by decide) r.2⟩)
    (Cert.ReferenceIdeal.Value.run m ρ),
  IdealRules.named_const.statement Cert.KernelIdeal.κ "mask" .f32 0xF149F2CA#32 ⊥ rfl,
  same_value⟩

end Cert.Proof

end
